-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 256]⟩ ⟨2, ![4096, 4096]⟩ 1 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)) →
    ∃ (v0 : Buf (Elt Ideal) (((0 : Dev Cert.ReferenceIdeal.nD).tc : Thread Cert.ReferenceIdeal.nD Cert.ReferenceIdeal.τ).loc Cert.ReferenceIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![256, 2048]⟩ ⟨2, ![4096, 2048]⟩ 0 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v6) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x256 : Shape := ⟨2, ![4096, 256]⟩
abbrev S4096x2048 : Shape := ⟨2, ![4096, 2048]⟩
abbrev S1 : Shape := ⟨1, ![1]⟩
abbrev S256x2048 : Shape := ⟨2, ![256, 2048]⟩
abbrev S256x4096 : Shape := ⟨2, ![256, 4096]⟩
abbrev S4x1024x2048 : Shape := ⟨3, ![4, 1024, 2048]⟩
abbrev S16 : Shape := ⟨1, ![16]⟩
abbrev S4x4 : Shape := ⟨2, ![4, 4]⟩
abbrev S_ : Shape := ⟨0, ![]⟩
abbrev S1x1 : Shape := ⟨2, ![1, 1]⟩
abbrev S1x256x2048 : Shape := ⟨3, ![1, 256, 2048]⟩
abbrev S256x256 : Shape := ⟨2, ![256, 256]⟩
abbrev S256x1024 : Shape := ⟨2, ![256, 1024]⟩
abbrev S1x1024x2048 : Shape := ⟨3, ![1, 1024, 2048]⟩
abbrev S1024x2048 : Shape := ⟨2, ![1024, 2048]⟩

abbrev nBuf : Space → Nat
  | .hbm => 5
  | .vmem => 5
  | .smem => 2
  | _ => 0

abbrev bufTy : (tb : Table) → Fin (tcTables nBuf tb) → BufTy
  | .hbm, ⟨0, _⟩ => ⟨S4096x256, .f32⟩
  | .hbm, ⟨1, _⟩ => ⟨S4096x2048, .f32⟩
  | .hbm, ⟨2, _⟩ => ⟨S1, .f32⟩
  | .hbm, ⟨3, _⟩ => ⟨S1, .f32⟩
  | .hbm, ⟨4, _⟩ => ⟨S256x2048, .f32⟩
  | .local _ .vmem, ⟨0, _⟩ => ⟨S4096x256, .f32⟩
  | .local _ .vmem, ⟨1, _⟩ => ⟨S256x2048, .f32⟩
  | .local _ .vmem, ⟨2, _⟩ => ⟨S4096x256, .fp8e5m2⟩
  | .local _ .vmem, ⟨3, _⟩ => ⟨S256x4096, .fp8e5m2⟩
  | .local _ .vmem, ⟨4, _⟩ => ⟨S4x1024x2048, .f32⟩
  | .local _ .smem, ⟨0, _⟩ => ⟨S1, .f32⟩
  | .local _ .smem, ⟨1, _⟩ => ⟨S1, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .smem, ⟨0, _⟩ => true
  | .smem, ⟨1, _⟩ => true
  | _, _ => false

abbrev semScoped : Fin 2 → Bool
  | ⟨0, _⟩ => true
  | ⟨1, _⟩ => false
  | _ => false

abbrev dmaSemScoped : Fin 52 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | _ => false

abbrev sig : RefSig :=
  (ofTc nBuf bufTy 2 52 bufScoped semScoped dmaSemScoped tileCredit tileCredit_eq_zero tileCredit_pos).withBarriers [(0, 1)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_scratch3 : Ref sig .tc := ⟨.vmem, 4, rfl⟩
abbrev cc0_stg1_0 : Ref sig .tc := ⟨.smem, 0, rfl⟩
abbrev cc0_stg2_0 : Ref sig .tc := ⟨.smem, 1, rfl⟩
abbrev cc0_sem0_0 : DmaSem sig := 0
abbrev cc0_sem1_0 : DmaSem sig := 1
abbrev cc0_sem2_0 : DmaSem sig := 2
abbrev barrier0 : Sem sig := 1

abbrev nD : Nat := 16
abbrev τ : Topo := Topo.v7x

variable {F : FTy → Type} [FloatOps F]

abbrev grid0 : Pipeline.Grid := .none

def k0_off1 (d0 : Dev nD) (c0_i32 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v3 : BitVec 32 := Scalar.subi v2 c0_i32
  let c16_i32_0 : BitVec 32 := 16#32
  let v4 : BitVec 32 := Scalar.addi v3 c16_i32_0
  let c16_i32_1 : BitVec 32 := 16#32
  let v5 : BitVec 32 := Scalar.remsi v4 c16_i32_1
  let c256_i32 : BitVec 32 := 256#32
  let v6 : BitVec 32 := Scalar.muli v5 c256_i32
  let c0_i32_7 : BitVec 32 := 0#32
  ![v6.toNat, 0]
def k0_dev1 (d0 : Dev nD) : Nat :=
  let c0_i32_146 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_142 : BitVec 32 := 1#32
  let v148 : BitVec 32 := Scalar.addi v2 c1_i32_142
  let c16_i32_143 : BitVec 32 := 16#32
  let v149 : BitVec 32 := Scalar.remsi v148 c16_i32_143
  let c1_i32_145 : BitVec 32 := 1#32
  let v150 : BitVec 32 := Scalar.muli v149 c1_i32_145
  let v151 : BitVec 32 := Scalar.addi c0_i32_146 v150
  v151.toNat
def k0_dev2 (d0 : Dev nD) : Nat :=
  let c0_i32_151 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_147 : BitVec 32 := 2#32
  let v152 : BitVec 32 := Scalar.addi v2 c2_i32_147
  let c16_i32_148 : BitVec 32 := 16#32
  let v153 : BitVec 32 := Scalar.remsi v152 c16_i32_148
  let c1_i32_150 : BitVec 32 := 1#32
  let v154 : BitVec 32 := Scalar.muli v153 c1_i32_150
  let v155 : BitVec 32 := Scalar.addi c0_i32_151 v154
  v155.toNat
def k0_dev3 (d0 : Dev nD) : Nat :=
  let c0_i32_156 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_152 : BitVec 32 := 3#32
  let v156 : BitVec 32 := Scalar.addi v2 c3_i32_152
  let c16_i32_153 : BitVec 32 := 16#32
  let v157 : BitVec 32 := Scalar.remsi v156 c16_i32_153
  let c1_i32_155 : BitVec 32 := 1#32
  let v158 : BitVec 32 := Scalar.muli v157 c1_i32_155
  let v159 : BitVec 32 := Scalar.addi c0_i32_156 v158
  v159.toNat
def k0_dev4 (d0 : Dev nD) : Nat :=
  let c0_i32_161 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_157 : BitVec 32 := 4#32
  let v160 : BitVec 32 := Scalar.addi v2 c4_i32_157
  let c16_i32_158 : BitVec 32 := 16#32
  let v161 : BitVec 32 := Scalar.remsi v160 c16_i32_158
  let c1_i32_160 : BitVec 32 := 1#32
  let v162 : BitVec 32 := Scalar.muli v161 c1_i32_160
  let v163 : BitVec 32 := Scalar.addi c0_i32_161 v162
  v163.toNat
def k0_dev5 (d0 : Dev nD) : Nat :=
  let c0_i32_166 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_162 : BitVec 32 := 5#32
  let v164 : BitVec 32 := Scalar.addi v2 c5_i32_162
  let c16_i32_163 : BitVec 32 := 16#32
  let v165 : BitVec 32 := Scalar.remsi v164 c16_i32_163
  let c1_i32_165 : BitVec 32 := 1#32
  let v166 : BitVec 32 := Scalar.muli v165 c1_i32_165
  let v167 : BitVec 32 := Scalar.addi c0_i32_166 v166
  v167.toNat
def k0_dev6 (d0 : Dev nD) : Nat :=
  let c0_i32_171 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_167 : BitVec 32 := 6#32
  let v168 : BitVec 32 := Scalar.addi v2 c6_i32_167
  let c16_i32_168 : BitVec 32 := 16#32
  let v169 : BitVec 32 := Scalar.remsi v168 c16_i32_168
  let c1_i32_170 : BitVec 32 := 1#32
  let v170 : BitVec 32 := Scalar.muli v169 c1_i32_170
  let v171 : BitVec 32 := Scalar.addi c0_i32_171 v170
  v171.toNat
def k0_dev7 (d0 : Dev nD) : Nat :=
  let c0_i32_176 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_172 : BitVec 32 := 7#32
  let v172 : BitVec 32 := Scalar.addi v2 c7_i32_172
  let c16_i32_173 : BitVec 32 := 16#32
  let v173 : BitVec 32 := Scalar.remsi v172 c16_i32_173
  let c1_i32_175 : BitVec 32 := 1#32
  let v174 : BitVec 32 := Scalar.muli v173 c1_i32_175
  let v175 : BitVec 32 := Scalar.addi c0_i32_176 v174
  v175.toNat
def k0_dev8 (d0 : Dev nD) : Nat :=
  let c0_i32_181 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_177 : BitVec 32 := 8#32
  let v176 : BitVec 32 := Scalar.addi v2 c8_i32_177
  let c16_i32_178 : BitVec 32 := 16#32
  let v177 : BitVec 32 := Scalar.remsi v176 c16_i32_178
  let c1_i32_180 : BitVec 32 := 1#32
  let v178 : BitVec 32 := Scalar.muli v177 c1_i32_180
  let v179 : BitVec 32 := Scalar.addi c0_i32_181 v178
  v179.toNat
def k0_dev9 (d0 : Dev nD) : Nat :=
  let c0_i32_186 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_182 : BitVec 32 := 9#32
  let v180 : BitVec 32 := Scalar.addi v2 c9_i32_182
  let c16_i32_183 : BitVec 32 := 16#32
  let v181 : BitVec 32 := Scalar.remsi v180 c16_i32_183
  let c1_i32_185 : BitVec 32 := 1#32
  let v182 : BitVec 32 := Scalar.muli v181 c1_i32_185
  let v183 : BitVec 32 := Scalar.addi c0_i32_186 v182
  v183.toNat
def k0_dev10 (d0 : Dev nD) : Nat :=
  let c0_i32_191 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_187 : BitVec 32 := 10#32
  let v184 : BitVec 32 := Scalar.addi v2 c10_i32_187
  let c16_i32_188 : BitVec 32 := 16#32
  let v185 : BitVec 32 := Scalar.remsi v184 c16_i32_188
  let c1_i32_190 : BitVec 32 := 1#32
  let v186 : BitVec 32 := Scalar.muli v185 c1_i32_190
  let v187 : BitVec 32 := Scalar.addi c0_i32_191 v186
  v187.toNat
def k0_dev11 (d0 : Dev nD) : Nat :=
  let c0_i32_196 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_192 : BitVec 32 := 11#32
  let v188 : BitVec 32 := Scalar.addi v2 c11_i32_192
  let c16_i32_193 : BitVec 32 := 16#32
  let v189 : BitVec 32 := Scalar.remsi v188 c16_i32_193
  let c1_i32_195 : BitVec 32 := 1#32
  let v190 : BitVec 32 := Scalar.muli v189 c1_i32_195
  let v191 : BitVec 32 := Scalar.addi c0_i32_196 v190
  v191.toNat
def k0_dev12 (d0 : Dev nD) : Nat :=
  let c0_i32_201 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_197 : BitVec 32 := 12#32
  let v192 : BitVec 32 := Scalar.addi v2 c12_i32_197
  let c16_i32_198 : BitVec 32 := 16#32
  let v193 : BitVec 32 := Scalar.remsi v192 c16_i32_198
  let c1_i32_200 : BitVec 32 := 1#32
  let v194 : BitVec 32 := Scalar.muli v193 c1_i32_200
  let v195 : BitVec 32 := Scalar.addi c0_i32_201 v194
  v195.toNat
def k0_dev13 (d0 : Dev nD) : Nat :=
  let c0_i32_206 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_202 : BitVec 32 := 13#32
  let v196 : BitVec 32 := Scalar.addi v2 c13_i32_202
  let c16_i32_203 : BitVec 32 := 16#32
  let v197 : BitVec 32 := Scalar.remsi v196 c16_i32_203
  let c1_i32_205 : BitVec 32 := 1#32
  let v198 : BitVec 32 := Scalar.muli v197 c1_i32_205
  let v199 : BitVec 32 := Scalar.addi c0_i32_206 v198
  v199.toNat
def k0_dev14 (d0 : Dev nD) : Nat :=
  let c0_i32_211 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_207 : BitVec 32 := 14#32
  let v200 : BitVec 32 := Scalar.addi v2 c14_i32_207
  let c16_i32_208 : BitVec 32 := 16#32
  let v201 : BitVec 32 := Scalar.remsi v200 c16_i32_208
  let c1_i32_210 : BitVec 32 := 1#32
  let v202 : BitVec 32 := Scalar.muli v201 c1_i32_210
  let v203 : BitVec 32 := Scalar.addi c0_i32_211 v202
  v203.toNat
def k0_dev15 (d0 : Dev nD) : Nat :=
  let c0_i32_216 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_212 : BitVec 32 := 15#32
  let v204 : BitVec 32 := Scalar.addi v2 c15_i32_212
  let c16_i32_213 : BitVec 32 := 16#32
  let v205 : BitVec 32 := Scalar.remsi v204 c16_i32_213
  let c1_i32_215 : BitVec 32 := 1#32
  let v206 : BitVec 32 := Scalar.muli v205 c1_i32_215
  let v207 : BitVec 32 := Scalar.addi c0_i32_216 v206
  v207.toNat
def k0_off2 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32_220 : BitVec 32 := 256#32
  let v214 : BitVec 32 := Scalar.muli v2 c256_i32_220
  let v215 : Index := Scalar.indexCast v214
  let c0_221 : Index := 0#32
  ![v215.toNat, 0]
def k0_off3 (d0 : Dev nD) (c1_i32_225 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v220 : BitVec 32 := Scalar.addi v2 c1_i32_225
  let c16_i32_226 : BitVec 32 := 16#32
  let v221 : BitVec 32 := Scalar.remsi v220 c16_i32_226
  let c256_i32_227 : BitVec 32 := 256#32
  let v222 : BitVec 32 := Scalar.muli v221 c256_i32_227
  let c0_i32_234 : BitVec 32 := 0#32
  ![v222.toNat, 0]
def k0_dev16 (d0 : Dev nD) : Nat :=
  let c0_i32_231 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_225 : BitVec 32 := 1#32
  let v220 : BitVec 32 := Scalar.addi v2 c1_i32_225
  let c16_i32_226 : BitVec 32 := 16#32
  let v221 : BitVec 32 := Scalar.remsi v220 c16_i32_226
  let c1_i32_230 : BitVec 32 := 1#32
  let v223 : BitVec 32 := Scalar.muli v221 c1_i32_230
  let v224 : BitVec 32 := Scalar.addi c0_i32_231 v223
  v224.toNat
def k0_dev17 (d0 : Dev nD) : Nat :=
  let c0_i32_241 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_235 : BitVec 32 := 2#32
  let v231 : BitVec 32 := Scalar.addi v2 c2_i32_235
  let c16_i32_236 : BitVec 32 := 16#32
  let v232 : BitVec 32 := Scalar.remsi v231 c16_i32_236
  let c1_i32_240 : BitVec 32 := 1#32
  let v234 : BitVec 32 := Scalar.muli v232 c1_i32_240
  let v235 : BitVec 32 := Scalar.addi c0_i32_241 v234
  v235.toNat
def k0_dev18 (d0 : Dev nD) : Nat :=
  let c0_i32_251 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_245 : BitVec 32 := 3#32
  let v242 : BitVec 32 := Scalar.addi v2 c3_i32_245
  let c16_i32_246 : BitVec 32 := 16#32
  let v243 : BitVec 32 := Scalar.remsi v242 c16_i32_246
  let c1_i32_250 : BitVec 32 := 1#32
  let v245 : BitVec 32 := Scalar.muli v243 c1_i32_250
  let v246 : BitVec 32 := Scalar.addi c0_i32_251 v245
  v246.toNat
def k0_dev19 (d0 : Dev nD) : Nat :=
  let c0_i32_261 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_255 : BitVec 32 := 4#32
  let v253 : BitVec 32 := Scalar.addi v2 c4_i32_255
  let c16_i32_256 : BitVec 32 := 16#32
  let v254 : BitVec 32 := Scalar.remsi v253 c16_i32_256
  let c1_i32_260 : BitVec 32 := 1#32
  let v256 : BitVec 32 := Scalar.muli v254 c1_i32_260
  let v257 : BitVec 32 := Scalar.addi c0_i32_261 v256
  v257.toNat
def k0_dev20 (d0 : Dev nD) : Nat :=
  let c0_i32_270 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_264 : BitVec 32 := 5#32
  let v264 : BitVec 32 := Scalar.addi v2 c5_i32_264
  let c16_i32_265 : BitVec 32 := 16#32
  let v265 : BitVec 32 := Scalar.remsi v264 c16_i32_265
  let c1_i32_269 : BitVec 32 := 1#32
  let v267 : BitVec 32 := Scalar.muli v265 c1_i32_269
  let v268 : BitVec 32 := Scalar.addi c0_i32_270 v267
  v268.toNat
def k0_dev21 (d0 : Dev nD) : Nat :=
  let c0_i32_279 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_273 : BitVec 32 := 6#32
  let v275 : BitVec 32 := Scalar.addi v2 c6_i32_273
  let c16_i32_274 : BitVec 32 := 16#32
  let v276 : BitVec 32 := Scalar.remsi v275 c16_i32_274
  let c1_i32_278 : BitVec 32 := 1#32
  let v278 : BitVec 32 := Scalar.muli v276 c1_i32_278
  let v279 : BitVec 32 := Scalar.addi c0_i32_279 v278
  v279.toNat
def k0_dev22 (d0 : Dev nD) : Nat :=
  let c0_i32_288 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_282 : BitVec 32 := 7#32
  let v286 : BitVec 32 := Scalar.addi v2 c7_i32_282
  let c16_i32_283 : BitVec 32 := 16#32
  let v287 : BitVec 32 := Scalar.remsi v286 c16_i32_283
  let c1_i32_287 : BitVec 32 := 1#32
  let v289 : BitVec 32 := Scalar.muli v287 c1_i32_287
  let v290 : BitVec 32 := Scalar.addi c0_i32_288 v289
  v290.toNat
def k0_dev23 (d0 : Dev nD) : Nat :=
  let c0_i32_297 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_291 : BitVec 32 := 8#32
  let v297 : BitVec 32 := Scalar.addi v2 c8_i32_291
  let c16_i32_292 : BitVec 32 := 16#32
  let v298 : BitVec 32 := Scalar.remsi v297 c16_i32_292
  let c1_i32_296 : BitVec 32 := 1#32
  let v300 : BitVec 32 := Scalar.muli v298 c1_i32_296
  let v301 : BitVec 32 := Scalar.addi c0_i32_297 v300
  v301.toNat
def k0_dev24 (d0 : Dev nD) : Nat :=
  let c0_i32_306 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_300 : BitVec 32 := 9#32
  let v308 : BitVec 32 := Scalar.addi v2 c9_i32_300
  let c16_i32_301 : BitVec 32 := 16#32
  let v309 : BitVec 32 := Scalar.remsi v308 c16_i32_301
  let c1_i32_305 : BitVec 32 := 1#32
  let v311 : BitVec 32 := Scalar.muli v309 c1_i32_305
  let v312 : BitVec 32 := Scalar.addi c0_i32_306 v311
  v312.toNat
def k0_dev25 (d0 : Dev nD) : Nat :=
  let c0_i32_315 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_309 : BitVec 32 := 10#32
  let v319 : BitVec 32 := Scalar.addi v2 c10_i32_309
  let c16_i32_310 : BitVec 32 := 16#32
  let v320 : BitVec 32 := Scalar.remsi v319 c16_i32_310
  let c1_i32_314 : BitVec 32 := 1#32
  let v322 : BitVec 32 := Scalar.muli v320 c1_i32_314
  let v323 : BitVec 32 := Scalar.addi c0_i32_315 v322
  v323.toNat
def k0_dev26 (d0 : Dev nD) : Nat :=
  let c0_i32_324 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_318 : BitVec 32 := 11#32
  let v330 : BitVec 32 := Scalar.addi v2 c11_i32_318
  let c16_i32_319 : BitVec 32 := 16#32
  let v331 : BitVec 32 := Scalar.remsi v330 c16_i32_319
  let c1_i32_323 : BitVec 32 := 1#32
  let v333 : BitVec 32 := Scalar.muli v331 c1_i32_323
  let v334 : BitVec 32 := Scalar.addi c0_i32_324 v333
  v334.toNat
def k0_dev27 (d0 : Dev nD) : Nat :=
  let c0_i32_333 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_327 : BitVec 32 := 12#32
  let v341 : BitVec 32 := Scalar.addi v2 c12_i32_327
  let c16_i32_328 : BitVec 32 := 16#32
  let v342 : BitVec 32 := Scalar.remsi v341 c16_i32_328
  let c1_i32_332 : BitVec 32 := 1#32
  let v344 : BitVec 32 := Scalar.muli v342 c1_i32_332
  let v345 : BitVec 32 := Scalar.addi c0_i32_333 v344
  v345.toNat
def k0_dev28 (d0 : Dev nD) : Nat :=
  let c0_i32_342 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_336 : BitVec 32 := 13#32
  let v352 : BitVec 32 := Scalar.addi v2 c13_i32_336
  let c16_i32_337 : BitVec 32 := 16#32
  let v353 : BitVec 32 := Scalar.remsi v352 c16_i32_337
  let c1_i32_341 : BitVec 32 := 1#32
  let v355 : BitVec 32 := Scalar.muli v353 c1_i32_341
  let v356 : BitVec 32 := Scalar.addi c0_i32_342 v355
  v356.toNat
def k0_dev29 (d0 : Dev nD) : Nat :=
  let c0_i32_351 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_345 : BitVec 32 := 14#32
  let v363 : BitVec 32 := Scalar.addi v2 c14_i32_345
  let c16_i32_346 : BitVec 32 := 16#32
  let v364 : BitVec 32 := Scalar.remsi v363 c16_i32_346
  let c1_i32_350 : BitVec 32 := 1#32
  let v366 : BitVec 32 := Scalar.muli v364 c1_i32_350
  let v367 : BitVec 32 := Scalar.addi c0_i32_351 v366
  v367.toNat
def k0_dev30 (d0 : Dev nD) : Nat :=
  let c0_i32_360 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_354 : BitVec 32 := 15#32
  let v374 : BitVec 32 := Scalar.addi v2 c15_i32_354
  let c16_i32_355 : BitVec 32 := 16#32
  let v375 : BitVec 32 := Scalar.remsi v374 c16_i32_355
  let c1_i32_359 : BitVec 32 := 1#32
  let v377 : BitVec 32 := Scalar.muli v375 c1_i32_359
  let v378 : BitVec 32 := Scalar.addi c0_i32_360 v377
  v378.toNat
def k0_dev31 (d0 : Dev nD) : Nat :=
  let c0_i32_693 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_689 : BitVec 32 := 1#32
  let v657 : BitVec 32 := Scalar.addi v2 c1_i32_689
  let c16_i32_690 : BitVec 32 := 16#32
  let v658 : BitVec 32 := Scalar.remsi v657 c16_i32_690
  let c1_i32_692 : BitVec 32 := 1#32
  let v659 : BitVec 32 := Scalar.muli v658 c1_i32_692
  let v660 : BitVec 32 := Scalar.addi c0_i32_693 v659
  v660.toNat
def k0_dev32 (d0 : Dev nD) : Nat :=
  let c0_i32_698 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_694 : BitVec 32 := 2#32
  let v661 : BitVec 32 := Scalar.addi v2 c2_i32_694
  let c16_i32_695 : BitVec 32 := 16#32
  let v662 : BitVec 32 := Scalar.remsi v661 c16_i32_695
  let c1_i32_697 : BitVec 32 := 1#32
  let v663 : BitVec 32 := Scalar.muli v662 c1_i32_697
  let v664 : BitVec 32 := Scalar.addi c0_i32_698 v663
  v664.toNat
def k0_dev33 (d0 : Dev nD) : Nat :=
  let c0_i32_703 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_699 : BitVec 32 := 3#32
  let v665 : BitVec 32 := Scalar.addi v2 c3_i32_699
  let c16_i32_700 : BitVec 32 := 16#32
  let v666 : BitVec 32 := Scalar.remsi v665 c16_i32_700
  let c1_i32_702 : BitVec 32 := 1#32
  let v667 : BitVec 32 := Scalar.muli v666 c1_i32_702
  let v668 : BitVec 32 := Scalar.addi c0_i32_703 v667
  v668.toNat
def k0_dev34 (d0 : Dev nD) : Nat :=
  let c0_i32_708 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_704 : BitVec 32 := 4#32
  let v669 : BitVec 32 := Scalar.addi v2 c4_i32_704
  let c16_i32_705 : BitVec 32 := 16#32
  let v670 : BitVec 32 := Scalar.remsi v669 c16_i32_705
  let c1_i32_707 : BitVec 32 := 1#32
  let v671 : BitVec 32 := Scalar.muli v670 c1_i32_707
  let v672 : BitVec 32 := Scalar.addi c0_i32_708 v671
  v672.toNat
def k0_dev35 (d0 : Dev nD) : Nat :=
  let c0_i32_713 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_709 : BitVec 32 := 5#32
  let v673 : BitVec 32 := Scalar.addi v2 c5_i32_709
  let c16_i32_710 : BitVec 32 := 16#32
  let v674 : BitVec 32 := Scalar.remsi v673 c16_i32_710
  let c1_i32_712 : BitVec 32 := 1#32
  let v675 : BitVec 32 := Scalar.muli v674 c1_i32_712
  let v676 : BitVec 32 := Scalar.addi c0_i32_713 v675
  v676.toNat
def k0_dev36 (d0 : Dev nD) : Nat :=
  let c0_i32_718 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_714 : BitVec 32 := 6#32
  let v677 : BitVec 32 := Scalar.addi v2 c6_i32_714
  let c16_i32_715 : BitVec 32 := 16#32
  let v678 : BitVec 32 := Scalar.remsi v677 c16_i32_715
  let c1_i32_717 : BitVec 32 := 1#32
  let v679 : BitVec 32 := Scalar.muli v678 c1_i32_717
  let v680 : BitVec 32 := Scalar.addi c0_i32_718 v679
  v680.toNat
def k0_dev37 (d0 : Dev nD) : Nat :=
  let c0_i32_723 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_719 : BitVec 32 := 7#32
  let v681 : BitVec 32 := Scalar.addi v2 c7_i32_719
  let c16_i32_720 : BitVec 32 := 16#32
  let v682 : BitVec 32 := Scalar.remsi v681 c16_i32_720
  let c1_i32_722 : BitVec 32 := 1#32
  let v683 : BitVec 32 := Scalar.muli v682 c1_i32_722
  let v684 : BitVec 32 := Scalar.addi c0_i32_723 v683
  v684.toNat
def k0_dev38 (d0 : Dev nD) : Nat :=
  let c0_i32_728 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_724 : BitVec 32 := 8#32
  let v685 : BitVec 32 := Scalar.addi v2 c8_i32_724
  let c16_i32_725 : BitVec 32 := 16#32
  let v686 : BitVec 32 := Scalar.remsi v685 c16_i32_725
  let c1_i32_727 : BitVec 32 := 1#32
  let v687 : BitVec 32 := Scalar.muli v686 c1_i32_727
  let v688 : BitVec 32 := Scalar.addi c0_i32_728 v687
  v688.toNat
def k0_dev39 (d0 : Dev nD) : Nat :=
  let c0_i32_733 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_729 : BitVec 32 := 9#32
  let v689 : BitVec 32 := Scalar.addi v2 c9_i32_729
  let c16_i32_730 : BitVec 32 := 16#32
  let v690 : BitVec 32 := Scalar.remsi v689 c16_i32_730
  let c1_i32_732 : BitVec 32 := 1#32
  let v691 : BitVec 32 := Scalar.muli v690 c1_i32_732
  let v692 : BitVec 32 := Scalar.addi c0_i32_733 v691
  v692.toNat
def k0_dev40 (d0 : Dev nD) : Nat :=
  let c0_i32_738 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_734 : BitVec 32 := 10#32
  let v693 : BitVec 32 := Scalar.addi v2 c10_i32_734
  let c16_i32_735 : BitVec 32 := 16#32
  let v694 : BitVec 32 := Scalar.remsi v693 c16_i32_735
  let c1_i32_737 : BitVec 32 := 1#32
  let v695 : BitVec 32 := Scalar.muli v694 c1_i32_737
  let v696 : BitVec 32 := Scalar.addi c0_i32_738 v695
  v696.toNat
def k0_dev41 (d0 : Dev nD) : Nat :=
  let c0_i32_743 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_739 : BitVec 32 := 11#32
  let v697 : BitVec 32 := Scalar.addi v2 c11_i32_739
  let c16_i32_740 : BitVec 32 := 16#32
  let v698 : BitVec 32 := Scalar.remsi v697 c16_i32_740
  let c1_i32_742 : BitVec 32 := 1#32
  let v699 : BitVec 32 := Scalar.muli v698 c1_i32_742
  let v700 : BitVec 32 := Scalar.addi c0_i32_743 v699
  v700.toNat
def k0_dev42 (d0 : Dev nD) : Nat :=
  let c0_i32_748 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_744 : BitVec 32 := 12#32
  let v701 : BitVec 32 := Scalar.addi v2 c12_i32_744
  let c16_i32_745 : BitVec 32 := 16#32
  let v702 : BitVec 32 := Scalar.remsi v701 c16_i32_745
  let c1_i32_747 : BitVec 32 := 1#32
  let v703 : BitVec 32 := Scalar.muli v702 c1_i32_747
  let v704 : BitVec 32 := Scalar.addi c0_i32_748 v703
  v704.toNat
def k0_dev43 (d0 : Dev nD) : Nat :=
  let c0_i32_753 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_749 : BitVec 32 := 13#32
  let v705 : BitVec 32 := Scalar.addi v2 c13_i32_749
  let c16_i32_750 : BitVec 32 := 16#32
  let v706 : BitVec 32 := Scalar.remsi v705 c16_i32_750
  let c1_i32_752 : BitVec 32 := 1#32
  let v707 : BitVec 32 := Scalar.muli v706 c1_i32_752
  let v708 : BitVec 32 := Scalar.addi c0_i32_753 v707
  v708.toNat
def k0_dev44 (d0 : Dev nD) : Nat :=
  let c0_i32_758 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_754 : BitVec 32 := 14#32
  let v709 : BitVec 32 := Scalar.addi v2 c14_i32_754
  let c16_i32_755 : BitVec 32 := 16#32
  let v710 : BitVec 32 := Scalar.remsi v709 c16_i32_755
  let c1_i32_757 : BitVec 32 := 1#32
  let v711 : BitVec 32 := Scalar.muli v710 c1_i32_757
  let v712 : BitVec 32 := Scalar.addi c0_i32_758 v711
  v712.toNat
def k0_dev45 (d0 : Dev nD) : Nat :=
  let c0_i32_763 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_759 : BitVec 32 := 15#32
  let v713 : BitVec 32 := Scalar.addi v2 c15_i32_759
  let c16_i32_760 : BitVec 32 := 16#32
  let v714 : BitVec 32 := Scalar.remsi v713 c16_i32_760
  let c1_i32_762 : BitVec 32 := 1#32
  let v715 : BitVec 32 := Scalar.muli v714 c1_i32_762
  let v716 : BitVec 32 := Scalar.addi c0_i32_763 v715
  v716.toNat
abbrev stage0_0 : Fin 1 → Memref sig .tc .vmem S4096x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S4096x4096 : Shape := ⟨2, ![4096, 4096]⟩
abbrev S4096x2048 : Shape := ⟨2, ![4096, 2048]⟩
abbrev S1 : Shape := ⟨1, ![1]⟩
abbrev S1x1 : Shape := ⟨2, ![1, 1]⟩
abbrev S_ : Shape := ⟨0, ![]⟩

abbrev nBuf : Space → Nat
  | .hbm => 12
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x2048, .f32⟩
  | .hbm, ⟨2, _⟩ => ⟨S1, .f32⟩
  | .hbm, ⟨3, _⟩ => ⟨S1, .f32⟩
  | .hbm, ⟨4, _⟩ => ⟨S4096x2048, .f32⟩
  | .hbm, ⟨5, _⟩ => ⟨S1, .f32⟩
  | .hbm, ⟨6, _⟩ => ⟨S1x1, .f32⟩
  | .hbm, ⟨7, _⟩ => ⟨S4096x2048, .f32⟩
  | .hbm, ⟨8, _⟩ => ⟨S4096x2048, .f32⟩
  | .hbm, ⟨9, _⟩ => ⟨S_, .f32⟩
  | .hbm, ⟨10, _⟩ => ⟨S4096x2048, .f32⟩
  | .hbm, ⟨11, _⟩ => ⟨S4096x2048, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩

abbrev nD : Nat := 1
abbrev τ : Topo := Topo.v7x

variable {F : FTy → Type} [FloatOps F]
-- ==== Proof.Loop.lean ====
/- The kernel body written as loops over the ring distance.  The printed body is straight-line text: sixteen weight
   copies, fifteen signals, fifteen sends, and so on.  Here each kind of step is one definition with the slot or the
   distance as argument, and `bodyAt_eq` says that the printed body is the sequence of loops over them. -/
module

public import proofs.«01_k».proof.Proof.Gen.KernelIdeal
public import proofs.«01_k».proof.Proof.Gen.KernelIdeal.Skeleton
public import proofs.«01_k».proof.Proof.Gen.KernelIdeal.Points
public import proofs.«01_k».proof.Proof.Gen.KernelIdeal.Launch

@[expose] public section

noncomputable section

namespace Cert.KernelIdeal.Ring

open Idealize.ShloMosaic Idealize.ShloMosaic.TcCoe
open Idealize.SL Idealize.SL.Sem
open Cert.KernelIdeal.Gen

variable {F : FTy → Type} [FloatOps F]

/-- The programs a kernel body consists of. -/
abbrev Pg (F : FTy → Type) [FloatOps F] := Prog (TpuEff nD τ sig (Elt F) Λ₀ .tc)

/-- A step for every member of a list, in order. -/
def each {ι : Type} : List ι → (ι → Pg F PUnit) → Pg F PUnit
  | [], _ => .ret ⟨⟩
  | a :: l, f => (f a).bind fun _ => each l f

/-- The distances 1 to 15, as `0 … 14`. -/
def L15 : List (Fin 15) := [0, 1, 2, 3, 4, 5, 6, 7, 8, 9, 10, 11, 12, 13, 14]
/-- The sixteen slots. -/
def L16 : List (Fin 16) := [0, 1, 2, 3, 4, 5, 6, 7, 8, 9, 10, 11, 12, 13, 14, 15]
/-- The four slots of group `g`. -/
def LW : Fin 4 → List (Fin 16)
  | 0 => [0, 1, 2, 3] | 1 => [4, 5, 6, 7] | 2 => [8, 9, 10, 11] | 3 => [12, 13, 14, 15]
/-- The distances whose blocks land in group `g`. -/
def LR : Fin 4 → List (Fin 15)
  | 0 => [0, 1, 2] | 1 => [3, 4, 5, 6] | 2 => [7, 8, 9, 10] | 3 => [11, 12, 13, 14]

/-! ## Buffers and semaphores -/

/-- The device's block of `x`, staged. -/
abbrev xM : Memref sig .tc .vmem S4096x256 .f32 := Memref.whole cc0_stg0_0
/-- The scale of `x`, staged. -/
abbrev s1M : Memref sig .tc .smem S1 .f32 := Memref.whole cc0_stg1_0
/-- The scale of `w_mat`, staged. -/
abbrev s2M : Memref sig .tc .smem S1 .f32 := Memref.whole cc0_stg2_0
/-- The weights, where they lie. -/
abbrev wM : Memref sig .tc .hbm S4096x2048 .f32 := Memref.whole main_arg1
/-- The result. -/
abbrev oM : Memref sig .tc .hbm S256x2048 .f32 := Memref.whole main_v1
/-- The running sum. -/
abbrev accM : Memref sig .tc .vmem S256x2048 .f32 := Memref.whole cc0_scratch0
/-- The device's block of `x`, rounded. -/
abbrev x8M : Memref sig .tc .vmem S4096x256 .fp8e5m2 := Memref.whole cc0_scratch1
/-- The gathered columns. -/
abbrev xfM : Memref sig .tc .vmem S256x4096 .fp8e5m2 := Memref.whole cc0_scratch2
/-- The gathered weights. -/
abbrev wtM : Memref sig .tc .vmem S4x1024x2048 .f32 := Memref.whole cc0_scratch3

/-- The rounded block is a whole buffer. -/
theorem hx8 : x8M.IsWhole := Memref.isWhole_whole _
/-- The gathered columns are a whole buffer. -/
theorem hxf : xfM.IsWhole := Memref.isWhole_whole _
/-- The running sum is a whole buffer. -/
theorem hacc : accM.IsWhole := Memref.isWhole_whole _
/-- The result is a whole buffer. -/
theorem ho : oM.IsWhole := Memref.isWhole_whole _

/-- Each distance's semaphore lies in its array of sixteen. -/
theorem inbS16 : ∀ d : Fin 15, ∀ a, (![1 + d.val] : Fin 1 → Nat) a + S1.size a ≤ S16.size a := by decide
/-- Each slot's weight semaphore lies in its array of four by four. -/
theorem inbS44 : ∀ p : Fin 16, ∀ a, (![p.val / 4, p.val % 4] : Fin 2 → Nat) a + S1x1.size a ≤ S4x4.size a := by decide
/-- Each weight tile lies in its buffer. -/
theorem inbTile : ∀ p : Fin 16, ∀ a, (![p.val / 4, 256 * (p.val % 4), 0] : Fin 3 → Nat) a + S1x256x2048.size a ≤ S4x1024x2048.size a := by decide
/-- Each slot lies in the buffer of gathered columns. -/
theorem inbSlot : ∀ d : Fin 15, ∀ a, (![0, 256 * (1 + d.val)] : Fin 2 → Nat) a + S256x256.size a ≤ S256x4096.size a := by decide
/-- Each group's columns lie in the buffer of gathered columns. -/
theorem inbXg : ∀ g : Fin 4, ∀ a, (![0, 1024 * g.val] : Fin 2 → Nat) a + S256x1024.size a ≤ S256x4096.size a := by decide
/-- Each group's weights lie in the buffer of weights. -/
theorem inbWg : ∀ g : Fin 4, ∀ a, (![g.val, 0, 0] : Fin 3 → Nat) a + S1x1024x2048.size a ≤ S4x1024x2048.size a := by decide
/-- A slot is made of whole words. -/
theorem wordsSlot : ∀ d : Fin 15, (Rect.unit (s := S256x4096) ![0, 256 * (1 + d.val)] S256x256.size (inbSlot d)).WholeWords (EltTy.packing .fp8e5m2) := by decide

/-- The barrier semaphore of the launch. -/
abbrev barA : Sems sig S_ := SemArray.scalar (sig.barrier 0 rfl)
/-- The send semaphore of distance `d + 1`. -/
abbrev sendA (d : Fin 15) : DmaSems sig S_ := (cc0_scratch4.slice (Rect.unit (s := S16) ![1 + d.val] S1.size (inbS16 d))).squeeze S_ squeezes_S1_S_
/-- The receive semaphore of distance `d + 1`. -/
abbrev recvA (d : Fin 15) : DmaSems sig S_ := (cc0_scratch5.slice (Rect.unit (s := S16) ![1 + d.val] S1.size (inbS16 d))).squeeze S_ squeezes_S1_S_
/-- The weight semaphore of slot `p`. -/
abbrev wA (p : Fin 16) : DmaSems sig S_ := (cc0_scratch6.slice (Rect.unit (s := S4x4) ![p.val / 4, p.val % 4] S1x1.size (inbS44 p))).squeeze S_ squeezes_S1x1_S_

/-- Tile `p` of the gathered weights, and the rows of the weights that device `c` copies there. -/
abbrev tileV (p : Fin 16) : Memref sig .tc .vmem S256x2048 .f32 :=
  (wtM.slice (Rect.unit (s := S4x1024x2048) ![p.val / 4, 256 * (p.val % 4), 0] S1x256x2048.size (inbTile p)) (fun _ => rfl)).squeeze S256x2048 squeezes_S1x256x2048_S256x2048
/-- The weight rows that belong in slot `p`. -/
abbrev wRows (c : Dev nD) (p : Fin 16) : Memref sig .tc .hbm S256x2048 .f32 :=
  wM.slice (Rect.unit (s := S4096x2048) (k0_off1 c (BitVec.ofNat 32 p.val)) S256x2048.size (k0_off1_inb c p)) (fun _ => rfl)
/-- Slot `d + 1` of the gathered columns, and the rows of the rounded block that device `c` sends at distance `d + 1`. -/
abbrev slotV (d : Fin 15) : Memref sig .tc .vmem S256x256 .fp8e5m2 :=
  xfM.slice (Rect.unit (s := S256x4096) ![0, 256 * (1 + d.val)] S256x256.size (inbSlot d)) (fun _ => rfl)
/-- The rows of the rounded block that go to the device at distance `d + 1`. -/
abbrev sendRows (c : Dev nD) (d : Fin 15) : Memref sig .tc .vmem S256x256 .fp8e5m2 :=
  x8M.slice (Rect.unit (s := S4096x256) (k0_off3 c (BitVec.ofNat 32 (1 + d.val))) S256x256.size (k0_off3_inb c d)) (fun _ => rfl)
/-- The source end a receive wait names. -/
abbrev waitRows : Memref sig .tc .vmem S256x256 .fp8e5m2 :=
  x8M.slice (Rect.unit (s := S4096x256) ![0, 0] S256x256.size inb_S4096x256_S256x256_0_0) (fun _ => rfl)

/-- The device at distance `d + 1` as the body's three loops compute it. -/
def devBar (c : Dev nD) : Fin 15 → Dev nD
  | 0 => ⟨k0_dev1 c, k0_dev1_lt c⟩ | 1 => ⟨k0_dev2 c, k0_dev2_lt c⟩ | 2 => ⟨k0_dev3 c, k0_dev3_lt c⟩ | 3 => ⟨k0_dev4 c, k0_dev4_lt c⟩
  | 4 => ⟨k0_dev5 c, k0_dev5_lt c⟩ | 5 => ⟨k0_dev6 c, k0_dev6_lt c⟩ | 6 => ⟨k0_dev7 c, k0_dev7_lt c⟩ | 7 => ⟨k0_dev8 c, k0_dev8_lt c⟩
  | 8 => ⟨k0_dev9 c, k0_dev9_lt c⟩ | 9 => ⟨k0_dev10 c, k0_dev10_lt c⟩ | 10 => ⟨k0_dev11 c, k0_dev11_lt c⟩ | 11 => ⟨k0_dev12 c, k0_dev12_lt c⟩
  | 12 => ⟨k0_dev13 c, k0_dev13_lt c⟩ | 13 => ⟨k0_dev14 c, k0_dev14_lt c⟩ | 14 => ⟨k0_dev15 c, k0_dev15_lt c⟩
/-- The device that the send of distance `d + 1` goes to, as printed. -/
def devSend (c : Dev nD) : Fin 15 → Dev nD
  | 0 => ⟨k0_dev16 c, k0_dev16_lt c⟩ | 1 => ⟨k0_dev17 c, k0_dev17_lt c⟩ | 2 => ⟨k0_dev18 c, k0_dev18_lt c⟩ | 3 => ⟨k0_dev19 c, k0_dev19_lt c⟩
  | 4 => ⟨k0_dev20 c, k0_dev20_lt c⟩ | 5 => ⟨k0_dev21 c, k0_dev21_lt c⟩ | 6 => ⟨k0_dev22 c, k0_dev22_lt c⟩ | 7 => ⟨k0_dev23 c, k0_dev23_lt c⟩
  | 8 => ⟨k0_dev24 c, k0_dev24_lt c⟩ | 9 => ⟨k0_dev25 c, k0_dev25_lt c⟩ | 10 => ⟨k0_dev26 c, k0_dev26_lt c⟩ | 11 => ⟨k0_dev27 c, k0_dev27_lt c⟩
  | 12 => ⟨k0_dev28 c, k0_dev28_lt c⟩ | 13 => ⟨k0_dev29 c, k0_dev29_lt c⟩ | 14 => ⟨k0_dev30 c, k0_dev30_lt c⟩
/-- The device that the exit signal of distance `d + 1` goes to, as printed. -/
def devExit (c : Dev nD) : Fin 15 → Dev nD
  | 0 => ⟨k0_dev31 c, k0_dev31_lt c⟩ | 1 => ⟨k0_dev32 c, k0_dev32_lt c⟩ | 2 => ⟨k0_dev33 c, k0_dev33_lt c⟩ | 3 => ⟨k0_dev34 c, k0_dev34_lt c⟩
  | 4 => ⟨k0_dev35 c, k0_dev35_lt c⟩ | 5 => ⟨k0_dev36 c, k0_dev36_lt c⟩ | 6 => ⟨k0_dev37 c, k0_dev37_lt c⟩ | 7 => ⟨k0_dev38 c, k0_dev38_lt c⟩
  | 8 => ⟨k0_dev39 c, k0_dev39_lt c⟩ | 9 => ⟨k0_dev40 c, k0_dev40_lt c⟩ | 10 => ⟨k0_dev41 c, k0_dev41_lt c⟩ | 11 => ⟨k0_dev42 c, k0_dev42_lt c⟩
  | 12 => ⟨k0_dev43 c, k0_dev43_lt c⟩ | 13 => ⟨k0_dev44 c, k0_dev44_lt c⟩ | 14 => ⟨k0_dev45 c, k0_dev45_lt c⟩

/-! ## The steps -/

/-- Start the copy of weight rows into tile `p`. -/
def wStart (c : Dev nD) (p : Fin 16) : Pg F PUnit :=
  Prog.lift (.enqueueDma (wRows c p) (.here (tileV p)) (.dma (wA p).sem) (View.wordExact_bits rfl) ((View.wordExact_bits rfl).reshape _ _) ⟨Or.inl rfl, trivial⟩)
/-- Wait for it. -/
def wWait (c : Dev nD) (p : Fin 16) : Pg F PUnit :=
  Prog.lift (.waitDma2 (wA p).sem (wRows c p) (tileV p) (View.wordExact_bits rfl) ((View.wordExact_bits rfl).reshape _ _))
/-- Signal the barrier of the device at distance `d + 1`. -/
def barSignal (c : Dev nD) (d : Fin 15) : Pg F PUnit := semSignalWord (devBar c d) barA.sem 1#32
/-- Send the block at distance `d + 1`. -/
def send (c : Dev nD) (d : Fin 15) : Pg F PUnit :=
  Prog.lift (.enqueueDma (sendRows c d) (.remote (Dev.tc (devSend c d)) (slotV d) (.dma (sendA d).sem)) (.dma (recvA d).sem)
    (hx8.wordExact_slice rfl _ (k0_off3_wordsfp8e5m2 c d)) (hxf.wordExact_slice rfl _ (wordsSlot d)) ⟨⟨rfl, Or.inl rfl⟩, trivial⟩)
/-- Wait for the block that arrives in slot `d + 1`. -/
def recvWait (d : Fin 15) : Pg F PUnit :=
  Prog.lift (.waitDma2 (recvA d).sem waitRows (slotV d) (hx8.wordExact_slice rfl _ wordsfp8e5m2_S4096x256_S256x256_0_0) (hxf.wordExact_slice rfl _ (wordsSlot d)))
/-- Signal the exit semaphore of the device at distance `d + 1`. -/
def exitSignal (c : Dev nD) (d : Fin 15) : Pg F PUnit := semSignalWord (devExit c d) cc0_scratch8.sem 1#32
/-- Wait until the send at distance `d + 1` has left. -/
def sendWait (c : Dev nD) (d : Fin 15) : Pg F PUnit :=
  Prog.lift (.waitDma2 (sendA d).sem (slotV d) (sendRows c d) (hxf.wordExact_slice rfl _ (wordsSlot d)) (hx8.wordExact_slice rfl _ (k0_off3_wordsfp8e5m2 c d)))

/-- All of the block of `x`. -/
abbrev xR : Rect S4096x256 := Rect.unit (s := S4096x256) ![0, 0] S4096x256.size inb_S4096x256_S4096x256_0_0
/-- All of the running sum. -/
abbrev aR : Rect S256x2048 := Rect.unit (s := S256x2048) ![0, 0] S256x2048.size inb_S256x2048_S256x2048_0_0
/-- The device's own rows of its block. -/
abbrev ownR (c : Dev nD) : Rect S4096x256 := Rect.unit (s := S4096x256) (k0_off2 c) S256x256.size (k0_off2_inb c)
/-- The slot that the device fills itself. -/
abbrev slot0R : Rect S256x4096 := Rect.unit (s := S256x4096) ![0, 0] S256x256.size inb_S256x4096_S256x256_0_0
/-- The columns of group `g`. -/
abbrev xgR (g : Fin 4) : Rect S256x4096 := Rect.unit (s := S256x4096) ![0, 1024 * g.val] S256x1024.size (inbXg g)
/-- The weights of group `g`. -/
abbrev wgR (g : Fin 4) : Rect S4x1024x2048 := Rect.unit (s := S4x1024x2048) ![g.val, 0, 0] S1x1024x2048.size (inbWg g)
/-- The one element of a scale. -/
abbrev oneR : Rect S1 := Rect.unit (s := S1) ![0] S1.size inb_S1_S1_0

/-- Round the block of `x` and put the device's own rows into slot 0. -/
def round (c : Dev nD) : Pg F PUnit :=
  .op (.load xM xR.toLoadRect (View.loadsAt_vmem h_S4096x256)) fun x =>
  .op (.load x8M xR.toLoadRect (View.loadsAt_vmem h_S4096x256)) fun _ =>
  .op (.store x8M xR (k0_pay2 x) Finset.univ (View.stores_vmem h_S4096x256 (hx8.storeExact_slice rfl _ packedfp8e5m2_S4096x256_S4096x256_0_0) (fun _ => rfl)) (.inl rfl)) fun _ =>
  .op (.load x8M (ownR c).toLoadRect (View.loadsAt_vmem h_S256x256)) fun y =>
  .op (.load xfM slot0R.toLoadRect (View.loadsAt_vmem h_S256x256)) fun _ =>
  .op (.store xfM slot0R (k0_pay3 y) Finset.univ (View.stores_vmem h_S256x256 (hxf.storeExact_slice rfl _ packedfp8e5m2_S256x4096_S256x256_0_0) (fun _ => rfl)) (.inl rfl)) fun _ =>
  .ret ⟨⟩

/-- The wait for the fifteen barrier signals. -/
def barWait : Pg F PUnit := semWaitWord barA.sem 15#32

/-- The waits of group `g`. -/
def waits (c : Dev nD) (g : Fin 4) : Pg F PUnit := (each (LW g) (wWait c)).bind fun _ => each (LR g) recvWait

/-- Load the columns and the weights of group `g`, and store the running sum of their product. -/
def first (g : Fin 4) : Pg F PUnit :=
  .op (.load xfM (xgR g).toLoadRect (View.loadsAt_vmem h_S256x1024)) fun x =>
  .op (.load wtM (wgR g).toLoadRect (View.loadsAt_vmem h_S1x1024x2048)) fun w =>
  .op (.load accM aR.toLoadRect (View.loadsAt_vmem h_S256x2048)) fun _ =>
  .op (.store accM aR (k0_pay4 x w) Finset.univ (View.stores_vmem_bits_univ h_S256x2048 rfl) (.inl rfl)) fun _ => .ret ⟨⟩
/-- A group after the first: its product is added to the running sum. -/
def next (g : Fin 4) (pay : Vec F S256x1024 .fp8e5m2 → Vec F S1x1024x2048 .f32 → Vec F S256x2048 .f32 → FVec F S256x2048 .f32) : Pg F PUnit :=
  .op (.load xfM (xgR g).toLoadRect (View.loadsAt_vmem h_S256x1024)) fun x =>
  .op (.load wtM (wgR g).toLoadRect (View.loadsAt_vmem h_S1x1024x2048)) fun w =>
  .op (.load accM aR.toLoadRect (View.loadsAt_vmem h_S256x2048)) fun a =>
  .op (.load accM aR.toLoadRect (View.loadsAt_vmem h_S256x2048)) fun _ =>
  .op (.store accM aR (pay x w a) Finset.univ (View.stores_vmem_bits_univ h_S256x2048 rfl) (.inl rfl)) fun _ => .ret ⟨⟩

/-- Scale and clip the sum, copy it to the result. -/
def finish : Pg F PUnit :=
  (smemLoad s1M oneR numel1_S1 rfl).bind fun a =>
  (smemLoad s2M oneR numel1_S1 rfl).bind fun b =>
  .op (.load accM aR.toLoadRect (View.loadsAt_vmem h_S256x2048)) fun y =>
  .op (.load accM aR.toLoadRect (View.loadsAt_vmem h_S256x2048)) fun _ =>
  .op (.store accM aR (k0_pay1 (k0_pay9 a b y)) Finset.univ (View.stores_vmem_bits_univ h_S256x2048 rfl) (.inl rfl)) fun _ =>
  .op (.enqueueDma accM (.here oM) (.dma cc0_scratch7.sem) hacc.wordExact ho.wordExact ⟨Or.inl rfl, trivial⟩) fun _ =>
  .op (.waitDma2 cc0_scratch7.sem accM oM hacc.wordExact ho.wordExact) fun _ =>
  (semWaitWord cc0_scratch8.sem 15#32).bind fun _ => .ret ⟨⟩

/-- The whole body on device `c`. -/
def loops (c : Dev nD) : Pg F PUnit :=
  (each L16 (wStart c)).bind fun _ =>
  (each L15 (barSignal c)).bind fun _ =>
  (round c).bind fun _ =>
  barWait.bind fun _ =>
  (each L15 (send c)).bind fun _ =>
  (waits c 0).bind fun _ => (first 0).bind fun _ =>
  (waits c 1).bind fun _ => (next 1 fun x w a => k0_pay6 (k0_pay5 x w a)).bind fun _ =>
  (waits c 2).bind fun _ => (next 2 k0_pay7).bind fun _ =>
  (waits c 3).bind fun _ => (next 3 k0_pay8).bind fun _ =>
  (each L15 (exitSignal c)).bind fun _ =>
  (each L15 (sendWait c)).bind fun _ =>
  finish

set_option maxRecDepth 65536 in
/-- The body the pipeline calls is the loops on the device it reads. -/
theorem bodyAt_eq : bodyAt0 (F := F) t0_0 = .op .deviceId fun c => loops c := by
  chain_rfl

end Cert.KernelIdeal.Ring
end
-- ==== Proof.Proto.lean ====
/- The protocol of the kernel: which semaphores the devices share, what each raise of one hands over, what the buffers
   hold at each stage, and what a device owes. -/
module

public import proofs.«01_k».proof.Proof.Loop
public import Idealize.ShloMosaic.Lib.Pipeline.Launch
public import Idealize.ShloMosaic.Lib.Pipeline.Kit
public import Idealize.ShloMosaic.Lib.Tactic
public import Idealize.ShloMosaic.Lib.ValueIdxCore

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix1 ix2 ix3)
open Cert.KernelIdeal.Gen

variable {F : FTy → Type} [FloatOps F]

/-! ## Resources -/

/-- The ghost state of the rounds. -/
abbrev UB : Type := URounds (GSem nD τ sig) (Fin 15)
/-- With the ghost state of the pipeline. -/
abbrev UU : Type := UR sig nD τ × UB
local notation "𝕄" => MT nD τ sig Unit (Elt F) ℕ UU ℕ
/-- The pipeline's part of the ghost state. -/
abbrev EP : Emb (UR sig nD τ) (MT nD τ sig Unit (Elt F) ℕ UU ℕ) := embL
/-- The rounds' part of the ghost state. -/
abbrev ER : Emb UB (MT nD τ sig Unit (Elt F) ℕ UU ℕ) := embR

/-! ## Devices -/

/-- The device at distance `d + 1` after `c`. -/
def pr (c : Dev nD) (d : Fin 15) : Dev nD := ⟨(c.val + 1 + d.val) % 16, Nat.mod_lt _ (by decide)⟩
/-- The device at distance `p` before `c`. -/
def src (c : Dev nD) (p : ℕ) : Dev nD := ⟨(c.val + 16 - p % 16) % 16, Nat.mod_lt _ (by decide)⟩

/-- Going back the rest of the ring from a peer leads home. -/
theorem pr_rev (c : Dev nD) (d : Fin 15) : pr (pr c d) d.rev = c := by revert c d; decide
/-- A device is its peer's source at the same distance. -/
theorem src_pr (c : Dev nD) (d : Fin 15) : src (pr c d) (1 + d.val) = c := by revert c d; decide
/-- A device is its source's peer at the same distance. -/
theorem pr_src (c : Dev nD) (d : Fin 15) : pr (src c (1 + d.val)) d = c := by revert c d; decide

/-- A number that is `c` plus the distance, around the ring, is the peer's. -/
theorem pr_val (c : Dev nD) (d : Fin 15) {k n : ℕ} (h : k = (c.val + n) % 16) (hn : n = 1 + d.val) : k = (pr c d).val := by
  subst hn; rw [h]; simp only [pr, Nat.add_assoc]
/-- The printed targets of the barrier signals are the peers. -/
theorem devBar_eq (c : Dev nD) : ∀ d : Fin 15, devBar c d = pr c d
  | 0 => Fin.ext (pr_val c 0 (k0_dev1_eq c) rfl) | 1 => Fin.ext (pr_val c 1 (k0_dev2_eq c) rfl) | 2 => Fin.ext (pr_val c 2 (k0_dev3_eq c) rfl)
  | 3 => Fin.ext (pr_val c 3 (k0_dev4_eq c) rfl) | 4 => Fin.ext (pr_val c 4 (k0_dev5_eq c) rfl) | 5 => Fin.ext (pr_val c 5 (k0_dev6_eq c) rfl)
  | 6 => Fin.ext (pr_val c 6 (k0_dev7_eq c) rfl) | 7 => Fin.ext (pr_val c 7 (k0_dev8_eq c) rfl) | 8 => Fin.ext (pr_val c 8 (k0_dev9_eq c) rfl)
  | 9 => Fin.ext (pr_val c 9 (k0_dev10_eq c) rfl) | 10 => Fin.ext (pr_val c 10 (k0_dev11_eq c) rfl) | 11 => Fin.ext (pr_val c 11 (k0_dev12_eq c) rfl)
  | 12 => Fin.ext (pr_val c 12 (k0_dev13_eq c) rfl) | 13 => Fin.ext (pr_val c 13 (k0_dev14_eq c) rfl) | 14 => Fin.ext (pr_val c 14 (k0_dev15_eq c) rfl)
/-- The printed targets of the sends are the peers. -/
theorem devSend_eq (c : Dev nD) : ∀ d : Fin 15, devSend c d = pr c d
  | 0 => Fin.ext (pr_val c 0 (k0_dev16_eq c) rfl) | 1 => Fin.ext (pr_val c 1 (k0_dev17_eq c) rfl) | 2 => Fin.ext (pr_val c 2 (k0_dev18_eq c) rfl)
  | 3 => Fin.ext (pr_val c 3 (k0_dev19_eq c) rfl) | 4 => Fin.ext (pr_val c 4 (k0_dev20_eq c) rfl) | 5 => Fin.ext (pr_val c 5 (k0_dev21_eq c) rfl)
  | 6 => Fin.ext (pr_val c 6 (k0_dev22_eq c) rfl) | 7 => Fin.ext (pr_val c 7 (k0_dev23_eq c) rfl) | 8 => Fin.ext (pr_val c 8 (k0_dev24_eq c) rfl)
  | 9 => Fin.ext (pr_val c 9 (k0_dev25_eq c) rfl) | 10 => Fin.ext (pr_val c 10 (k0_dev26_eq c) rfl) | 11 => Fin.ext (pr_val c 11 (k0_dev27_eq c) rfl)
  | 12 => Fin.ext (pr_val c 12 (k0_dev28_eq c) rfl) | 13 => Fin.ext (pr_val c 13 (k0_dev29_eq c) rfl) | 14 => Fin.ext (pr_val c 14 (k0_dev30_eq c) rfl)
/-- The printed targets of the exit signals are the peers. -/
theorem devExit_eq (c : Dev nD) : ∀ d : Fin 15, devExit c d = pr c d
  | 0 => Fin.ext (pr_val c 0 (k0_dev31_eq c) rfl) | 1 => Fin.ext (pr_val c 1 (k0_dev32_eq c) rfl) | 2 => Fin.ext (pr_val c 2 (k0_dev33_eq c) rfl)
  | 3 => Fin.ext (pr_val c 3 (k0_dev34_eq c) rfl) | 4 => Fin.ext (pr_val c 4 (k0_dev35_eq c) rfl) | 5 => Fin.ext (pr_val c 5 (k0_dev36_eq c) rfl)
  | 6 => Fin.ext (pr_val c 6 (k0_dev37_eq c) rfl) | 7 => Fin.ext (pr_val c 7 (k0_dev38_eq c) rfl) | 8 => Fin.ext (pr_val c 8 (k0_dev39_eq c) rfl)
  | 9 => Fin.ext (pr_val c 9 (k0_dev40_eq c) rfl) | 10 => Fin.ext (pr_val c 10 (k0_dev41_eq c) rfl) | 11 => Fin.ext (pr_val c 11 (k0_dev42_eq c) rfl)
  | 12 => Fin.ext (pr_val c 12 (k0_dev43_eq c) rfl) | 13 => Fin.ext (pr_val c 13 (k0_dev44_eq c) rfl) | 14 => Fin.ext (pr_val c 14 (k0_dev45_eq c) rfl)

/-! ## Semaphores -/

/-- The barrier semaphore. -/
abbrev barS : Sem sig := barA.sem
/-- The exit semaphore. -/
abbrev exitS : Sem sig := cc0_scratch8.sem

/-- The kernel's own semaphores: the send and the receive semaphores of the fifteen distances, the weight semaphores of
    the sixteen slots, and four more: the exit semaphore, the one of the result's copy, and the two the kernel allocates
    for distance 0 and never uses. -/
abbrev OwnIx : Type := (Fin 15 ⊕ Fin 15) ⊕ (Fin 16 ⊕ Fin 4)
/-- With the barrier semaphore, which the kernel does not own. -/
abbrev CellIx : Type := OwnIx ⊕ Unit

/-- The send semaphore of distance `d + 1`. -/
abbrev iSend (d : Fin 15) : CellIx := .inl (.inl (.inl d))
/-- The receive semaphore of distance `d + 1`. -/
abbrev iRecv (d : Fin 15) : CellIx := .inl (.inl (.inr d))
/-- The weight semaphore of slot `p`. -/
abbrev iW (p : Fin 16) : CellIx := .inl (.inr (.inl p))
/-- The exit semaphore, by its index. -/
abbrev iExit : CellIx := .inl (.inr (.inr 0))
/-- The semaphore of the result's copy. -/
abbrev iOut : CellIx := .inl (.inr (.inr 1))
/-- The barrier semaphore, by its index. -/
abbrev iBar : CellIx := .inr ()

/-- The semaphore that an index of the kernel's own names. -/
def osem : OwnIx → SemLoc sig
  | .inl (.inl d) => .dma (sendA d).sem
  | .inl (.inr d) => .dma (recvA d).sem
  | .inr (.inl p) => .dma (wA p).sem
  | .inr (.inr 0) => .reg exitS
  | .inr (.inr 1) => .dma cc0_scratch7.sem
  | .inr (.inr 2) => .dma (3 : Fin 52)
  | .inr (.inr 3) => .dma (19 : Fin 52)
/-- The semaphore that an index names. -/
def csem : CellIx → SemLoc sig
  | .inl k => osem k
  | .inr _ => .reg barS

/-- Which of them a semaphore is. -/
def kd : SemLoc sig → Option CellIx
  | .reg i => if i.val = 1 then some iBar else if i.val = 0 then some iExit else none
  | .dma i =>
    if h : 4 ≤ i.val ∧ i.val < 19 then some (iSend ⟨i.val - 4, by omega⟩)
    else if h : 20 ≤ i.val ∧ i.val < 35 then some (iRecv ⟨i.val - 20, by omega⟩)
    else if h : 35 ≤ i.val ∧ i.val < 51 then some (iW ⟨i.val - 35, by omega⟩)
    else if i.val = 51 then some iOut
    else if i.val = 3 then some (.inl (.inr (.inr 2)))
    else if i.val = 19 then some (.inl (.inr (.inr 3))) else none

set_option maxRecDepth 4096 in
/-- A send semaphore is found by its index. -/
theorem kd_send : ∀ d : Fin 15, kd (.dma (sendA d).sem) = some (iSend d) := by decide
set_option maxRecDepth 4096 in
/-- A receive semaphore is found by its index. -/
theorem kd_recv : ∀ d : Fin 15, kd (.dma (recvA d).sem) = some (iRecv d) := by decide
set_option maxRecDepth 4096 in
/-- A weight semaphore is found by its index. -/
theorem kd_w : ∀ p : Fin 16, kd (.dma (wA p).sem) = some (iW p) := by decide
/-- The exit semaphore is found by its index. -/
theorem kd_exit : kd (.reg exitS) = some iExit := by decide
/-- The barrier semaphore is found by its index. -/
theorem kd_bar : kd (.reg barS) = some iBar := by decide
/-- The semaphore of the result's copy is found by its index. -/
theorem kd_out : kd (.dma cc0_scratch7.sem) = some iOut := by decide
set_option maxRecDepth 4096 in
/-- Every semaphore is found by its index. -/
theorem kd_csem (k : CellIx) : kd (csem k) = some k := by
  rcases k with ((d | d) | (p | j)) | u
  · exact kd_send d
  · exact kd_recv d
  · exact kd_w p
  · fin_cases j <;> decide
  · exact kd_bar
/-- Different indices name different semaphores. -/
theorem csem_inj : Function.Injective csem := fun a b h => by
  have := congrArg kd h; rw [kd_csem, kd_csem] at this; exact Option.some.inj this

/-- A device's semaphore. -/
abbrev cell (c : Dev nD) (k : CellIx) : GSem nD τ sig := ((c : Thread nD τ), csem k)
/-- The same, of a pair. -/
abbrev kcell (ck : Dev nD × CellIx) : GSem nD τ sig := cell ck.1 ck.2

/-! ## Amounts -/

/-- What the copy of a slot raises a semaphore by. -/
abbrev NX : ℕ := (slotV 0).view.dmaCredit
/-- What the copy of a weight tile raises a semaphore by. -/
abbrev NW : ℕ := (tileV 0).view.dmaCredit
/-- What the copy of the result raises a semaphore by. -/
abbrev NO : ℕ := oM.view.dmaCredit
/-- The copy of a slot raises its semaphores by something. -/
theorem NX_pos : 0 < NX := View.dmaCredit_pos _ (by decide)
/-- The copy of a tile raises its semaphore by something. -/
theorem NW_pos : 0 < NW := View.dmaCredit_pos _ (by decide)
/-- The copy of the result raises its semaphore by something. -/
theorem NO_pos : 0 < NO := View.dmaCredit_pos _ (by decide)
omit [FloatOps F] in
/-- Every slot's copy raises by the same amount. -/
theorem slot_credit (d : Fin 15) : (slotV d).view.dmaCredit = NX := rfl
omit [FloatOps F] in
/-- The rows sent count as much as the slot they fill. -/
theorem rows_credit (c : Dev nD) (d : Fin 15) : (sendRows c d).view.dmaCredit = NX := rfl
omit [FloatOps F] in
/-- Every tile's copy raises by the same amount. -/
theorem tile_credit (p : Fin 16) : (tileV p).view.dmaCredit = NW := rfl

/-! ## Contents -/

variable (m : (ℓ : Loc nD τ sig) → Buf (Elt F) ℓ) (ρ : Dev nD → PrngReg)

/-- The memory at launch: any contents, every semaphore at zero. -/
def s₀ : MemSt nD τ sig (Elt F) := ⟨m, fun _ => 0, ρ⟩

/-- The device's block of `x` and the two scales, staged. -/
def xAt (c : Dev nD) : (cc0_stg0_0 : Ref sig .tc).ty.Contents (Elt F) := (win0_0.blk (0 : Fin 1)).view.read (Elt F) (m ((c : Thread nD τ).loc main_arg0))
/-- The scale of `x`, staged. -/
def s1At (c : Dev nD) : (cc0_stg1_0 : Ref sig .tc).ty.Contents (Elt F) := (win0_1.blk (0 : Fin 1)).view.read (Elt F) (m ((c : Thread nD τ).loc main_arg2))
/-- The scale of `w_mat`, staged. -/
def s2At (c : Dev nD) : (cc0_stg2_0 : Ref sig .tc).ty.Contents (Elt F) := (win0_2.blk (0 : Fin 1)).view.read (Elt F) (m ((c : Thread nD τ).loc main_arg3))
/-- The block rounded. -/
def x8At (c : Dev nD) : (cc0_scratch1 : Ref sig .tc).ty.Contents (Elt F) := k0_pay2 (xAt m c)
/-- The gathered columns: slot `p` holds device `c`'s rows of the rounded block of the device at distance `p` before it. -/
def xfAt (c : Dev nD) : (cc0_scratch2 : Ref sig .tc).ty.Contents (Elt F) := fun i =>
  x8At m (src c ((i 1).val / 256)) (ix2 (n0 := 4096) (n1 := 256) ⟨256 * c.val + (i 0).val, by have : (i 0).val < 256 := (i 0).isLt; have : c.val < 16 := c.isLt; omega⟩ ⟨(i 1).val % 256, Nat.mod_lt _ (by decide)⟩)
/-- The gathered weights: tile `p` holds the rows of the weights that belong to the same device's columns. -/
def wtAt (c : Dev nD) : (cc0_scratch3 : Ref sig .tc).ty.Contents (Elt F) := fun i =>
  m ((c : Thread nD τ).loc main_arg1) (ix2 (n0 := 4096) (n1 := 2048)
    ⟨256 * (src c (4 * (i 0).val + (i 1).val / 256)).val + (i 1).val % 256, by have h : (src c (4 * (i 0).val + (i 1).val / 256)).val < 16 := Fin.isLt _; omega⟩ (i 2))
/-- The columns and the weights of group `g`. -/
def xg (c : Dev nD) (g : Fin 4) : Vec F S256x1024 .fp8e5m2 := xfM.view.readAt (Elt F) (xgR g).toLoadRect (xfAt m c)
/-- The weights of group `g`. -/
def wg (c : Dev nD) (g : Fin 4) : Vec F S1x1024x2048 .f32 := wtM.view.readAt (Elt F) (wgR g).toLoadRect (wtAt m c)
/-- The running sum after each group. -/
def acc0 (c : Dev nD) : Vec F S256x2048 .f32 := k0_pay4 (xg m c 0) (wg m c 0)
/-- The running sum after the second group. -/
def acc1 (c : Dev nD) : Vec F S256x2048 .f32 := k0_pay6 (k0_pay5 (xg m c 1) (wg m c 1) (acc0 m c))
/-- The running sum after the third group. -/
def acc2 (c : Dev nD) : Vec F S256x2048 .f32 := k0_pay7 (xg m c 2) (wg m c 2) (acc1 m c)
/-- The running sum after the last group. -/
def acc3 (c : Dev nD) : Vec F S256x2048 .f32 := k0_pay8 (xg m c 3) (wg m c 3) (acc2 m c)
/-- The result of device `c`. -/
def outAt (c : Dev nD) : Vec F S256x2048 .f32 :=
  k0_pay1 (k0_pay9 (s1At m c (ix1 (n := 1) 0)) (s2At m c (ix1 (n := 1) 0)) (acc3 m c))

/-! ## The schedule -/

/-- A view of a device's buffer at contents `f`. -/
def vpt {sp : Space} {s : Shape} {e : EltTy} (c : Dev nD) (v : Memref sig .tc sp s e) (f : Buf (Elt F) (v.view.loc (c : Thread nD τ))) : sProp 𝕄 :=
  v.view.loc (c : Thread nD τ) ↦[v.view.set]{fullShare} f
omit [FloatOps F] in
/-- Such an assertion can be kept in an invariant. -/
instance vpt_storable {sp : Space} {s : Shape} {e : EltTy} (c : Dev nD) (v : Memref sig .tc sp s e) (f) : BI.Storable (upEmb : UEmb _ 𝕄) (vpt (F := F) c v f) := by
  unfold vpt; infer_instance

/-- The amounts of the kinds of cell, given what a slot, a tile and the result weigh. -/
def amtWith (x w o : ℕ) : Option CellIx → ℕ
  | some (.inl (.inl _)) => x
  | some (.inl (.inr (.inl _))) => w
  | some (.inl (.inr (.inr 1))) => o
  | _ => 1
/-- What the raises of the cell `k` of device `e` hand to `e`: the barrier signal from distance `d + 1` the slot that `e`
    will send into, a receive the slot filled, a send the rows sent, a weight copy the tile filled and the rows read, the
    result's copy the result and the sum it was copied from. -/
def pay (e : Dev nD) : Option CellIx → Fin 15 → sProp 𝕄
  | some (.inr _), d => iprop(∃ f, vpt (pr e d) (slotV d) f)
  | some (.inl (.inl (.inl d))), _ => vpt e (sendRows e d) (x8At m e)
  | some (.inl (.inl (.inr d))), _ => vpt e (slotV d) (xfAt m e)
  | some (.inl (.inr (.inl p))), _ => iprop(vpt e (tileV p) (wtAt m e) ∗ vpt e (wRows e p) (m ((e : Thread nD τ).loc main_arg1)))
  | some (.inl (.inr (.inr 1))), _ => iprop(vpt e oM (outAt m e) ∗ vpt e accM (outAt m e))
  | _, _ => iprop(emp)

/-- Who raises a cell: the barrier and the exit cell are raised from fifteen distances, a copy's cell once, an unused cell never. -/
def dut : Option CellIx → Finset (Fin 15)
  | some (.inr _) => Finset.univ
  | some (.inl (.inl _)) => {0}
  | some (.inl (.inr (.inl _))) => {0}
  | some (.inl (.inr (.inr 0))) => Finset.univ
  | some (.inl (.inr (.inr 1))) => {0}
  | _ => ∅
/-- The amount of every cell. -/
def amt : Option CellIx → ℕ := amtWith NX NW NO

/-- Every amount is positive when the three are. -/
theorem amtWith_pos (x w o : ℕ) (hx : 0 < x) (hw : 0 < w) (ho : 0 < o) (k : Option CellIx) : 0 < amtWith x w o k := by
  unfold amtWith; split
  · exact hx
  · exact hw
  · exact ho
  · exact Nat.one_pos
/-- Every amount is positive. -/
theorem amt_pos (k : Option CellIx) : 0 < amt k := amtWith_pos _ _ _ NX_pos NW_pos NO_pos k
/-- A send cell's amount is the slot's. -/
theorem amtWith_send (x w o : ℕ) (d : Fin 15) : amtWith x w o (some (iSend d)) = x := rfl
/-- A receive cell's amount is the slot's. -/
theorem amtWith_recv (x w o : ℕ) (d : Fin 15) : amtWith x w o (some (iRecv d)) = x := rfl
/-- A weight cell's amount is the tile's. -/
theorem amtWith_w (x w o : ℕ) (p : Fin 16) : amtWith x w o (some (iW p)) = w := rfl
/-- The amount of the result's cell is the result's. -/
theorem amtWith_out (x w o : ℕ) : amtWith x w o (some iOut) = o := rfl
/-- A barrier signal is one unit. -/
theorem amtWith_bar (x w o : ℕ) : amtWith x w o (some iBar) = 1 := rfl
/-- An exit signal is one unit. -/
theorem amtWith_exit (x w o : ℕ) : amtWith x w o (some iExit) = 1 := rfl
/-- What a send cell is raised by. -/
theorem amt_send (d : Fin 15) : amt (some (iSend d)) = NX := amtWith_send _ _ _ d
/-- What a receive cell is raised by. -/
theorem amt_recv (d : Fin 15) : amt (some (iRecv d)) = NX := amtWith_recv _ _ _ d
/-- What a weight cell is raised by. -/
theorem amt_w (p : Fin 16) : amt (some (iW p)) = NW := amtWith_w _ _ _ p
/-- What the cell of the result's copy is raised by. -/
theorem amt_out : amt (some iOut) = NO := amtWith_out _ _ _
/-- What a barrier cell is raised by at a time. -/
theorem amt_bar : amt (some iBar) = 1 := amtWith_bar _ _ _
/-- What an exit cell is raised by at a time. -/
theorem amt_exit : amt (some iExit) = 1 := amtWith_exit _ _ _

/-- One round: the barrier and the exit cell take a unit from each of the fifteen other devices, the others one copy. -/
def sch : Rounds.Schedule (GSem nD τ sig) (Fin 15) 𝕄 where
  duties g r := if r = 0 ∧ g.1.2 = .tc then dut (kd g.2) else ∅
  unitless _ := False
  amount g _ _ := amt (kd g.2)
  payload g _ d := pay m g.1.1 (kd g.2) d
  amount_pos g _ _ _ := amt_pos _

omit [FloatOps F] in
/-- What a raise hands over can be kept in an invariant. -/
instance pay_storable [FloatOps F] (e : Dev nD) (k : Option CellIx) (d : Fin 15) : BI.Storable (upEmb : UEmb _ 𝕄) (pay m e k d) := by
  unfold pay; split <;> infer_instance
/-- So can the schedule's payloads. -/
instance sch_storable (g : GSem nD τ sig) (r : ℕ) (d : Fin 15) : BI.Storable (upEmb : UEmb _ 𝕄) ((sch m).payload g r d) := pay_storable m _ _ _

/-- The raises of a cell in its one round. -/
theorem duties_cell (c : Dev nD) (k : CellIx) : (sch m).duties (cell c k) 0 = dut (some k) := by
  dsimp only [sch]; rw [if_pos ⟨rfl, rfl⟩, kd_csem]
/-- No cell is raised after its first round. -/
theorem duties_later (g : GSem nD τ sig) : ∀ r, 1 ≤ r → (sch m).duties g r = ∅ :=
  fun r hr => if_neg fun h => by omega
/-- The amount of a cell's raise. -/
theorem amount_cell (c : Dev nD) (k : CellIx) (r : ℕ) (d : Fin 15) : (sch m).amount (cell c k) r d = amt (some k) := by
  show amt (kd (csem k)) = _; rw [kd_csem]
/-- What a cell's raise hands over. -/
theorem payload_cell (c : Dev nD) (k : CellIx) (r : ℕ) (d : Fin 15) : (sch m).payload (cell c k) r d = pay m c (some k) d := by
  show pay m c (kd (csem k)) d = _; rw [kd_csem]
/-- All that a cell is raised by in its round. -/
theorem expect_cell (c : Dev nD) (k : CellIx) : (sch m).expect (cell c k) 0 = (dut (some k)).card * amt (some k) := by
  unfold Schedule.expect Schedule.amountOf
  rw [duties_cell, Finset.sum_congr rfl fun d _ => amount_cell m c k 0 d, Finset.sum_const, smul_eq_mul]
/-- What the round of a cell hands its owner. -/
theorem rest_cell (c : Dev nD) (k : CellIx) :
    bigSep ((sch m).duties (cell c k) 0 \ ∅) (fun d => (sch m).payload (cell c k) 0 d) = bigSep (dut (some k)) (pay m c (some k)) := by
  rw [Finset.sdiff_empty, duties_cell]
  exact bigSep_congr fun d _ => payload_cell m c k 0 d

/-! ## What a device owes; the levels -/

/-- The sum of `f` over a list, the first member last. -/
def tallies {ι : Type} (l : List ι) (f : ι → CellTallies nD τ sig Unit) : CellTallies nD τ sig Unit := l.foldr (fun a s => s + f a) 0

/-- The exit signals owed to the peers at the distances of a list. -/
def exitO (c : Dev nD) (l : List (Fin 15)) : CellTallies nD τ sig Unit := tallies l fun d => tallyAt (cell (pr c d) iExit) () 1
/-- The blocks owed to the peers at the distances of a list. -/
def sendO (c : Dev nD) (l : List (Fin 15)) : CellTallies nD τ sig Unit := tallies l fun d => tallyAt (cell (pr c d) (iRecv d)) () NX
/-- The barrier signals owed to the peers at the distances of a list. -/
def barO (c : Dev nD) (l : List (Fin 15)) : CellTallies nD τ sig Unit := tallies l fun d => tallyAt (cell (pr c d) iBar) () 1
/-- What device `c` owes at launch: an exit signal to each other device, a block to each, a barrier signal to each. -/
def O₀ (c : Dev nD) : CellTallies nD τ sig Unit := exitO c L15 + sendO c L15 + barO c L15

/-- The cells that have a level: those of the TensorCores. -/
def L (g : GSem nD τ sig) : Finset Unit := if g.1.2 = .tc then {()} else ∅
/-- The level of each kind of cell. -/
def lvk : Option CellIx → ℕ
  | some (.inr _) => 1
  | some (.inl (.inl (.inr _))) => 2
  | some (.inl (.inr (.inr 0))) => 3
  | _ => 0
/-- The barrier cells lie at 1, the receive cells at 2, the exit cells at 3, all others at 0. -/
def lv (g : GSem nD τ sig) (_ : Unit) : ℕ := lvk (kd g.2)

/-- No other processor's cell has a level. -/
theorem L_of_ne (g : GSem nD τ sig) (h : g.1.2 ≠ .tc) : L g = ∅ := if_neg h
/-- A TensorCore's cell has a level. -/
theorem L_tc (c : Dev nD) (sm : SemLoc sig) : L ((c : Thread nD τ), sm) = {()} := if_pos rfl
/-- A cell's level is that of its kind. -/
theorem lv_cell (c : Dev nD) (k : CellIx) (u : Unit) : lv (cell c k) u = lvk (some k) := by
  show lvk (kd (csem k)) = _; rw [kd_csem]

/-- Everything that `O` owes is owed to a TensorCore cell above level `n`. -/
def Above (n : ℕ) (O : CellTallies nD τ sig Unit) : Prop := ∀ g u, 0 < O g u → L g = {()} ∧ n < lv g u
/-- Nothing owed is above everything. -/
theorem above_zero (n : ℕ) : Above n 0 := fun g u h => absurd h (Nat.lt_irrefl 0)
/-- A sum lies above a level when both parts do. -/
theorem above_add {n : ℕ} {O P : CellTallies nD τ sig Unit} (h : Above n O) (h' : Above n P) : Above n (O + P) := fun g u hg => by
  rw [Pi.add_apply, Finsupp.add_apply] at hg
  by_cases h0 : 0 < O g u
  · exact h g u h0
  · exact h' g u (by omega)
/-- A debt to a cell above the level lies above the level. -/
theorem above_tally {n : ℕ} (c : Dev nD) (k : CellIx) (N : ℕ) (h : n < lvk (some k)) : Above n (tallyAt (cell c k) () N) := fun g u hg => by
  rw [tallyAt_apply] at hg
  by_cases hh : g = cell c k ∧ u = ()
  · rw [hh.1]; exact ⟨L_tc _ _, by rw [lv_cell]; exact h⟩
  · rw [if_neg hh] at hg; exact absurd hg (Nat.lt_irrefl 0)
/-- So does a list of such debts. -/
theorem above_tallies {n : ℕ} {ι : Type} (l : List ι) (f : ι → CellTallies nD τ sig Unit) (h : ∀ a, Above n (f a)) : Above n (tallies l f) := by
  induction l with
  | nil => exact above_zero n
  | cons a l ih => exact above_add ih (h a)
/-- The exit signals lie above every level less than 3. -/
theorem above_exit {n : ℕ} (hn : n < 3) (c : Dev nD) (l : List (Fin 15)) : Above n (exitO c l) := above_tallies l _ fun d => above_tally _ _ _ hn
/-- The blocks lie above every level less than 2. -/
theorem above_send {n : ℕ} (hn : n < 2) (c : Dev nD) (l : List (Fin 15)) : Above n (sendO c l) := above_tallies l _ fun d => above_tally _ _ _ hn
/-- The barrier signals lie above level 0. -/
theorem above_bar {n : ℕ} (hn : n < 1) (c : Dev nD) (l : List (Fin 15)) : Above n (barO c l) := above_tallies l _ fun d => above_tally _ _ _ hn
/-- All that is owed at launch lies above level 0. -/
theorem above_O₀ (c : Dev nD) : Above 0 (O₀ c) :=
  above_add (above_add (above_exit (by decide) c _) (above_send (by decide) c _)) (above_bar (by decide) c _)

omit [FloatOps F] in
/-- A device may wait on a cell below everything it owes. -/
theorem mayWait_of (c : Dev nD) (sm : SemLoc sig) {n : ℕ} (hn : lvk (kd sm) ≤ n) {O : CellTallies nD τ sig Unit} (hO : Above n O) :
    (levAts L lv : sProp 𝕄) ⊢ MayWait (c : Thread nD τ) sm () O :=
  MayOwe.of_cut (L := L) (lev := lv) n (fun p hp => by rw [Finset.mem_singleton.mp hp, L_tc]; exact Finset.mem_singleton_self _)
    (fun g u hg => by rw [(hO g u hg).1]; exact Finset.mem_singleton_self _)
    (fun p hp => by rw [Finset.mem_singleton.mp hp]; exact hn)
    (fun g u hg => (hO g u hg).2)

end Cert.KernelIdeal.Ring
end
-- ==== Proof.Sets.lean ====
/- The parts of the buffers: which elements each view names, how a buffer is the separate parts, and what a copy between
   two of them leaves. -/
module

public import proofs.«01_k».proof.Proof.Proto
public import Idealize.ShloMosaic.Lib.Pipeline.Value
public import Idealize.ShloMosaic.Lib.Pipeline.ValueKit.Geometry

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.ValueIdx (ix1 ix2 ix3)
open Cert.KernelIdeal.Gen

variable {F : FTy → Type} [FloatOps F]
local notation "𝕄" => MT nD τ sig Unit (Elt F) ℕ UU ℕ

/-! ## Elements of a view -/

/-- The number of a source. -/
theorem src_val (c : Dev nD) (p : ℕ) : (src c p).val = (c.val + 16 - p % 16) % 16 := rfl

/-- Membership in a rectangle of rank two, coordinate by coordinate. -/
theorem mem_rect2 {n0 n1 : ℕ} {off size : Fin 2 → ℕ} {inb} (i : (⟨2, ![n0, n1]⟩ : Shape).Idx) :
    i ∈ (Rect.unit (s := ⟨2, ![n0, n1]⟩) off size inb).set
      ↔ (off 0 ≤ (i 0).val ∧ (i 0).val < off 0 + size 0) ∧ (off 1 ≤ (i 1).val ∧ (i 1).val < off 1 + size 1) :=
  Rect.mem_set_unit.trans (Fin.forall_fin_two)

/-- Membership in a box of rank three, coordinate by coordinate. -/
theorem mem_rect3 {n0 n1 n2 : ℕ} {off size : Fin 3 → ℕ} {inb} (i : (⟨3, ![n0, n1, n2]⟩ : Shape).Idx) :
    i ∈ (Rect.unit (s := ⟨3, ![n0, n1, n2]⟩) off size inb).set
      ↔ (off 0 ≤ (i 0).val ∧ (i 0).val < off 0 + size 0) ∧ (off 1 ≤ (i 1).val ∧ (i 1).val < off 1 + size 1)
        ∧ (off 2 ≤ (i 2).val ∧ (i 2).val < off 2 + size 2) :=
  Rect.mem_set_unit.trans ⟨fun h => ⟨h 0, h 1, h 2⟩, fun h a => by fin_cases a; exacts [h.1, h.2.1, h.2.2]⟩

/-- Slot `d + 1` of the gathered columns: the columns `256 (d + 1) + j`. -/
theorem mem_slot (d : Fin 15) (i : S256x4096.Idx) : i ∈ (slotV d).view.set ↔ (i 1).val / 256 = 1 + d.val := by
  have h0 : (i 0).val < 256 := (i 0).isLt
  refine (Finset.ext_iff.mp (View.set_slice_whole cc0_scratch2 (Rect.unit (s := S256x4096) ![0, 256 * (1 + d.val)] S256x256.size (inbSlot d))) i).trans ((mem_rect2 i).trans ?_)
  show (0 ≤ (i 0).val ∧ (i 0).val < 0 + 256) ∧ (256 * (1 + d.val) ≤ (i 1).val ∧ (i 1).val < 256 * (1 + d.val) + 256) ↔ _
  omega
/-- The elements of the slot that the device fills itself. -/
theorem mem_slot0 (i : S256x4096.Idx) : i ∈ slot0R.set ↔ (i 1).val / 256 = 0 := by
  have h0 : (i 0).val < 256 := (i 0).isLt
  refine (mem_rect2 i).trans ?_
  show (0 ≤ (i 0).val ∧ (i 0).val < 0 + 256) ∧ (0 ≤ (i 1).val ∧ (i 1).val < 0 + 256) ↔ _
  omega
/-- The elements of group `g`'s columns. -/
theorem mem_xg (g : Fin 4) (i : S256x4096.Idx) : i ∈ (xgR g).set ↔ (i 1).val / 1024 = g.val := by
  have h0 : (i 0).val < 256 := (i 0).isLt
  refine (mem_rect2 i).trans ?_
  show (0 ≤ (i 0).val ∧ (i 0).val < 0 + 256) ∧ (1024 * g.val ≤ (i 1).val ∧ (i 1).val < 1024 * g.val + 1024) ↔ _
  omega
/-- The rows sent at distance `d + 1`: those that belong to the device there. -/
theorem mem_rows (c : Dev nD) (d : Fin 15) (i : S4096x256.Idx) : i ∈ (sendRows c d).view.set ↔ (i 0).val / 256 = (pr c d).val := by
  have h0 : (i 1).val < 256 := (i 1).isLt
  have h1 : (i 0).val < 4096 := (i 0).isLt
  refine (Finset.ext_iff.mp (View.set_slice_whole cc0_scratch1 (Rect.unit (s := S4096x256) (k0_off3 c (BitVec.ofNat 32 (1 + d.val))) S256x256.size (k0_off3_inb c d))) i).trans ((mem_rect2 i).trans ?_)
  rw [k0_off3_eq c d]
  show (256 * ((c.val + d.val + 1) % 16) ≤ (i 0).val ∧ (i 0).val < 256 * ((c.val + d.val + 1) % 16) + 256) ∧ (0 ≤ (i 1).val ∧ (i 1).val < 0 + 256) ↔ (i 0).val / 256 = (c.val + 1 + d.val) % 16
  omega
/-- The elements of the device's own rows. -/
theorem mem_own (c : Dev nD) (i : S4096x256.Idx) : i ∈ (ownR c).set ↔ (i 0).val / 256 = c.val := by
  have h0 : (i 1).val < 256 := (i 1).isLt
  refine (mem_rect2 i).trans ?_
  rw [k0_off2_eq c]
  show (256 * c.val ≤ (i 0).val ∧ (i 0).val < 256 * c.val + 256) ∧ (0 ≤ (i 1).val ∧ (i 1).val < 0 + 256) ↔ _
  omega
/-- The weight rows for slot `p`: those of the device at distance `p` before. -/
theorem mem_wRows (c : Dev nD) (p : Fin 16) (i : S4096x2048.Idx) : i ∈ (wRows c p).view.set ↔ (i 0).val / 256 = (src c p.val).val := by
  have h0 : (i 1).val < 2048 := (i 1).isLt
  have h1 : p.val < 16 := p.isLt
  refine (Finset.ext_iff.mp (View.set_slice_whole main_arg1 (Rect.unit (s := S4096x2048) (k0_off1 c (BitVec.ofNat 32 p.val)) S256x2048.size (k0_off1_inb c p))) i).trans ((mem_rect2 i).trans ?_)
  rw [k0_off1_eq c p, src_val]
  show (256 * (((c.val + 16) - p.val) % 16) ≤ (i 0).val ∧ (i 0).val < 256 * (((c.val + 16) - p.val) % 16) + 256) ∧ (0 ≤ (i 1).val ∧ (i 1).val < 0 + 2048) ↔ _
  rw [Nat.mod_eq_of_lt h1]; omega
/-- The elements of weight tile `p`. -/
theorem mem_tile (p : Fin 16) (i : S4x1024x2048.Idx) : i ∈ (tileV p).view.set ↔ 4 * (i 0).val + (i 1).val / 256 = p.val := by
  have h1 : (i 1).val < 1024 := (i 1).isLt
  have h2 : (i 2).val < 2048 := (i 2).isLt
  have hp : p.val < 16 := p.isLt
  refine (Finset.ext_iff.mp ((View.set_reshape _ _).trans
    (View.set_slice_whole cc0_scratch3 (Rect.unit (s := S4x1024x2048) ![p.val / 4, 256 * (p.val % 4), 0] S1x256x2048.size (inbTile p)))) i).trans ?_
  refine (mem_rect3 i).trans ?_
  show (p.val / 4 ≤ (i 0).val ∧ (i 0).val < p.val / 4 + 1) ∧ (256 * (p.val % 4) ≤ (i 1).val ∧ (i 1).val < 256 * (p.val % 4) + 256)
    ∧ (0 ≤ (i 2).val ∧ (i 2).val < 0 + 2048) ↔ _
  omega
/-- The elements of group `g`'s weights. -/
theorem mem_wg (g : Fin 4) (i : S4x1024x2048.Idx) : i ∈ (wgR g).set ↔ (i 0).val = g.val := by
  have h1 : (i 1).val < 1024 := (i 1).isLt
  have h2 : (i 2).val < 2048 := (i 2).isLt
  refine (mem_rect3 i).trans ?_
  show (g.val ≤ (i 0).val ∧ (i 0).val < g.val + 1) ∧ (0 ≤ (i 1).val ∧ (i 1).val < 0 + 1024) ∧ (0 ≤ (i 2).val ∧ (i 2).val < 0 + 2048) ↔ _
  omega

/-! ## A buffer as its parts -/

omit [FloatOps F] in
/-- Assertions that entail each other are equal. -/
theorem eq_of_both {P Q : sProp 𝕄} (h : P ⊣⊢ Q) : P = Q := Idealize.SL.BI.equiv_iff.mp ⟨h.1, h.2⟩

omit [FloatOps F] in
/-- A set of elements is separately the parts on which a function has different values. -/
theorem split_parts {ℓ : Loc nD τ sig} {q : PosShare TreeShare} {f : Buf (Elt F) ℓ} {J : Type} (l : Finset J) {S : Finset (Idx ℓ)}
    {K : J → Finset (Idx ℓ)} (φ : Idx ℓ → ℕ) (v : J → ℕ) (hK : ∀ j i, i ∈ K j ↔ φ i = v j) (hv : ∀ j ∈ l, ∀ j' ∈ l, v j = v j' → j = j')
    (hS : ∀ i, i ∈ S ↔ ∃ j ∈ l, φ i = v j) : (ℓ ↦[S]{q} f : sProp 𝕄) = bigSep l fun j => ℓ ↦[K j]{q} f := by
  rw [show S = l.biUnion K from Finset.ext fun i => (hS i).trans (by
    rw [Finset.mem_biUnion]; exact exists_congr fun j => and_congr_right' (hK j i).symm)]
  exact pointsTo_biUnion l K fun t ht t' ht' hne => Finset.disjoint_left.mpr fun i hi hi' =>
    hne (hv t ht t' ht' (((hK t i).mp hi).symm.trans ((hK t' i).mp hi')))

omit [FloatOps F] in
/-- The same with one part set apart. -/
theorem split_first {ℓ : Loc nD τ sig} {q : PosShare TreeShare} {f : Buf (Elt F) ℓ} {J : Type} (l : Finset J) {S A : Finset (Idx ℓ)}
    {K : J → Finset (Idx ℓ)} (φ : Idx ℓ → ℕ) (a : ℕ) (v : J → ℕ) (hA : ∀ i, i ∈ A ↔ φ i = a) (hK : ∀ j i, i ∈ K j ↔ φ i = v j)
    (ha : ∀ j ∈ l, v j ≠ a) (hv : ∀ j ∈ l, ∀ j' ∈ l, v j = v j' → j = j') (hS : ∀ i, i ∈ S ↔ φ i = a ∨ ∃ j ∈ l, φ i = v j) :
    (ℓ ↦[S]{q} f : sProp 𝕄) = iprop((ℓ ↦[A]{q} f) ∗ bigSep l fun j => ℓ ↦[K j]{q} f) := by
  have hB (i : Idx ℓ) : i ∈ l.biUnion K ↔ ∃ j ∈ l, φ i = v j := by
    rw [Finset.mem_biUnion]; exact exists_congr fun j => and_congr_right' (hK j i)
  rw [← split_parts l φ v hK hv hB, show S = A ∪ l.biUnion K from Finset.ext fun i => (hS i).trans (by
    rw [Finset.mem_union, hA, hB])]
  exact eq_of_both (pointsTo_union (Finset.disjoint_left.mpr fun i hi hi' => by
    obtain ⟨j, hj, h⟩ := (hB i).mp hi'
    exact ha j hj (h.symm.trans ((hA i).mp hi))))

/-- A part of a buffer of device `c`, by its elements. -/
abbrev part (c : Dev nD) (b : Ref sig .tc) (S : Finset b.ty.Idx) (f : b.ty.Contents (Elt F)) : sProp 𝕄 :=
  ((c : Thread nD τ).loc b) ↦[S]{fullShare} f

/-- What a list of assertions asserts together. -/
def listSep {ι : Type} (l : List ι) (Φ : ι → sProp 𝕄) : sProp 𝕄 := l.foldr (fun a s => iprop(Φ a ∗ s)) iprop(emp)

omit [FloatOps F] in
/-- Over a list without repetition the conjunction is that over its set. -/
theorem listSep_eq {ι : Type} [DecidableEq ι] (l : List ι) (hl : l.Nodup) (Φ : ι → sProp 𝕄) : listSep l Φ = bigSep l.toFinset Φ := by
  induction l with
  | nil => rw [List.toFinset_nil, bigSep_empty]; rfl
  | cons a l ih =>
    rw [List.toFinset_cons, bigSep_insert (by rw [List.mem_toFinset]; exact (List.nodup_cons.mp hl).1), ← ih (List.nodup_cons.mp hl).2]; rfl
omit [FloatOps F] in
/-- The conjunction over two lists joined is that of the two. -/
theorem listSep_append {ι : Type} (l l' : List ι) (Φ : ι → sProp 𝕄) : listSep (l ++ l') Φ = iprop(listSep l Φ ∗ listSep l' Φ) := by
  induction l with
  | nil => exact (eq_of_both (BIClass.emp_sep (PROP := sProp 𝕄))).symm
  | cons a l ih =>
    show iprop(Φ a ∗ listSep (l ++ l') Φ) = iprop((Φ a ∗ listSep l Φ) ∗ listSep l' Φ)
    rw [ih]; exact (eq_of_both (Laws.sep_assoc (PROP := sProp 𝕄))).symm
omit [FloatOps F] in
/-- The conjunction of pairs is the pair of conjunctions. -/
theorem listSep_sep {ι : Type} (l : List ι) (Φ Ψ : ι → sProp 𝕄) : listSep l (fun a => iprop(Φ a ∗ Ψ a)) = iprop(listSep l Φ ∗ listSep l Ψ) := by
  induction l with
  | nil => exact (eq_of_both (BIClass.emp_sep (PROP := sProp 𝕄))).symm
  | cons a l ih =>
    show iprop((Φ a ∗ Ψ a) ∗ listSep l (fun a => iprop(Φ a ∗ Ψ a))) = iprop((Φ a ∗ listSep l Φ) ∗ (Ψ a ∗ listSep l Ψ))
    rw [ih]; exact eq_of_both (Laws.sep_sep_sep_comm (PROP := sProp 𝕄))
omit [FloatOps F] in
/-- The conjunction is monotone. -/
theorem listSep_mono {ι : Type} (l : List ι) {Φ Ψ : ι → sProp 𝕄} (h : ∀ a, Φ a ⊢ Ψ a) : listSep l Φ ⊢ listSep l Ψ := by
  induction l with
  | nil => exact BI.Entails.refl _
  | cons a l ih => exact BI.sep_mono (h a) ih

/-- The list of distances has all of them. -/
theorem L15_univ : L15.toFinset = Finset.univ := by decide
/-- The list of slots has all of them. -/
theorem L16_univ : L16.toFinset = Finset.univ := by decide
/-- The list of distances repeats none. -/
theorem L15_nodup : L15.Nodup := by decide
/-- The list of slots repeats none. -/
theorem L16_nodup : L16.Nodup := by decide
omit [FloatOps F] in
/-- The conjunction over the list of distances is that over all distances. -/
theorem listSep15 (Φ : Fin 15 → sProp 𝕄) : listSep L15 Φ = bigSep Finset.univ Φ := by rw [listSep_eq _ L15_nodup, L15_univ]
omit [FloatOps F] in
/-- The conjunction over the list of slots is that over all slots. -/
theorem listSep16 (Φ : Fin 16 → sProp 𝕄) : listSep L16 Φ = bigSep Finset.univ Φ := by rw [listSep_eq _ L16_nodup, L16_univ]

/-- Different distances lead to different peers. -/
theorem pr_inj (c : Dev nD) (d d' : Fin 15) (h : (pr c d).val = (pr c d').val) : d = d' := by
  have : ∀ c : Dev nD, ∀ d d' : Fin 15, (pr c d).val = (pr c d').val → d = d' := by decide
  exact this c d d' h
/-- Different slots have different sources. -/
theorem src_inj (c : Dev nD) (p p' : Fin 16) (h : (src c p.val).val = (src c p'.val).val) : p = p' := by
  have : ∀ c : Dev nD, ∀ p p' : Fin 16, (src c p.val).val = (src c p'.val).val → p = p' := by decide
  exact this c p p' h

/-- A group's list of receives repeats none. -/
theorem LR_nodup : ∀ g, (LR g).Nodup := by decide
/-- A group's list of tiles repeats none. -/
theorem LW_nodup : ∀ g, (LW g).Nodup := by decide
/-- Which distances a group receives from. -/
theorem LR_mem : ∀ g : Fin 4, ∀ d : Fin 15, d ∈ LR g ↔ (1 + d.val) / 4 = g.val := by decide
/-- Which tiles a group waits for. -/
theorem LW_mem : ∀ g : Fin 4, ∀ p : Fin 16, p ∈ LW g ↔ p.val / 4 = g.val := by decide

omit [FloatOps F] in
/-- The gathered columns: slot 0 and the fifteen others. -/
theorem xf_slots (c : Dev nD) (f : (cc0_scratch2 : Ref sig .tc).ty.Contents (Elt F)) :
    (part c cc0_scratch2 Finset.univ f : sProp 𝕄) = iprop(part c cc0_scratch2 slot0R.set f ∗ listSep L15 fun d => vpt c (slotV d) f) := by
  rw [listSep15]
  exact split_first Finset.univ (fun i : S256x4096.Idx => (i 1).val / 256) 0 (fun d : Fin 15 => 1 + d.val) mem_slot0 mem_slot
    (fun d _ => by omega) (fun d _ d' _ h => Fin.ext (by omega)) (fun i => ⟨fun _ => by
      have hi : (i 1).val < 4096 := (i 1).isLt
      by_cases h : (i 1).val / 256 = 0
      · exact .inl h
      · exact .inr ⟨⟨(i 1).val / 256 - 1, by omega⟩, Finset.mem_univ _, by show _ = 1 + ((i 1).val / 256 - 1); omega⟩,
      fun _ => Finset.mem_univ _⟩)
omit [FloatOps F] in
/-- The first group of them: slot 0 and the first three others; -/
theorem xg_slots0 (c : Dev nD) (f : (cc0_scratch2 : Ref sig .tc).ty.Contents (Elt F)) :
    (part c cc0_scratch2 (xgR 0).set f : sProp 𝕄) = iprop(part c cc0_scratch2 slot0R.set f ∗ listSep (LR 0) fun d => vpt c (slotV d) f) := by
  rw [listSep_eq _ (LR_nodup 0)]
  exact split_first (LR 0).toFinset (fun i : S256x4096.Idx => (i 1).val / 256) 0 (fun d : Fin 15 => 1 + d.val) mem_slot0 mem_slot
    (fun d _ => by omega) (fun d _ d' _ h => Fin.ext (by omega)) (fun i => (mem_xg 0 i).trans ⟨fun (h' : _ = 0) => by
      by_cases h : (i 1).val / 256 = 0
      · exact .inl h
      · exact .inr ⟨⟨(i 1).val / 256 - 1, by omega⟩, List.mem_toFinset.mpr ((LR_mem 0 _).mpr (by show (1 + ((i 1).val / 256 - 1)) / 4 = 0; omega)),
          by show _ = 1 + ((i 1).val / 256 - 1); omega⟩,
      fun h => by
        show _ = 0
        rcases h with h | ⟨d, hd, h⟩
        · omega
        · have : (1 + d.val) / 4 = 0 := (LR_mem 0 d).mp (List.mem_toFinset.mp hd)
          omega⟩)
omit [FloatOps F] in
/-- a later group: its four slots. -/
theorem xg_slots (c : Dev nD) (g : Fin 4) (hg : g ≠ 0) (f : (cc0_scratch2 : Ref sig .tc).ty.Contents (Elt F)) :
    (part c cc0_scratch2 (xgR g).set f : sProp 𝕄) = listSep (LR g) fun d => vpt c (slotV d) f := by
  rw [listSep_eq _ (LR_nodup g)]
  have hg' : g.val ≠ 0 := fun h => hg (Fin.ext h)
  exact split_parts (LR g).toFinset (fun i : S256x4096.Idx => (i 1).val / 256) (fun d : Fin 15 => 1 + d.val) mem_slot
    (fun d _ d' _ h => Fin.ext (by omega)) (fun i => (mem_xg g i).trans ⟨fun h' => by
      have hi : (i 1).val < 4096 := (i 1).isLt
      exact ⟨⟨(i 1).val / 256 - 1, by omega⟩, List.mem_toFinset.mpr ((LR_mem g _).mpr (by show (1 + ((i 1).val / 256 - 1)) / 4 = _; omega)),
          by show _ = 1 + ((i 1).val / 256 - 1); omega⟩,
      fun ⟨d, hd, h⟩ => by
        have : (1 + d.val) / 4 = g.val := (LR_mem g d).mp (List.mem_toFinset.mp hd)
        omega⟩)
omit [FloatOps F] in
/-- The gathered columns are the four groups' columns. -/
theorem xf_groups (c : Dev nD) (f : (cc0_scratch2 : Ref sig .tc).ty.Contents (Elt F)) :
    (part c cc0_scratch2 Finset.univ f : sProp 𝕄) = bigSep Finset.univ fun g : Fin 4 => part c cc0_scratch2 (xgR g).set f :=
  split_parts Finset.univ (fun i : S256x4096.Idx => (i 1).val / 1024) (fun g : Fin 4 => g.val) mem_xg (fun g _ g' _ h => Fin.ext h)
    (fun i => ⟨fun _ => ⟨⟨(i 1).val / 1024, by have hi : (i 1).val < 4096 := (i 1).isLt; omega⟩, Finset.mem_univ _, rfl⟩, fun _ => Finset.mem_univ _⟩)

omit [FloatOps F] in
/-- The rounded block: the device's own rows and those of the fifteen others. -/
theorem x8_rows (c : Dev nD) (f : (cc0_scratch1 : Ref sig .tc).ty.Contents (Elt F)) :
    (part c cc0_scratch1 Finset.univ f : sProp 𝕄) = iprop(part c cc0_scratch1 (ownR c).set f ∗ listSep L15 fun d => vpt c (sendRows c d) f) := by
  rw [listSep15]
  have hne : ∀ c : Dev nD, ∀ d : Fin 15, (pr c d).val ≠ c.val := by decide
  have hall : ∀ c e : Dev nD, e.val = c.val ∨ ∃ d : Fin 15, e.val = (pr c d).val := by decide
  exact split_first Finset.univ (fun i : S4096x256.Idx => (i 0).val / 256) c.val (fun d : Fin 15 => (pr c d).val) (mem_own c) (mem_rows c)
    (fun d _ => hne c d) (fun d _ d' _ h => pr_inj c d d' h) (fun i => ⟨fun _ => by
      have hi : (i 0).val < 4096 := (i 0).isLt
      rcases hall c ⟨(i 0).val / 256, by show _ < 16; omega⟩ with h | ⟨d, h⟩
      · exact .inl h
      · exact .inr ⟨d, Finset.mem_univ _, h⟩,
      fun _ => Finset.mem_univ _⟩)

omit [FloatOps F] in
/-- The weights: the rows of the sixteen devices. -/
theorem w_rows (c : Dev nD) (f : (main_arg1 : Ref sig .tc).ty.Contents (Elt F)) :
    (part c main_arg1 Finset.univ f : sProp 𝕄) = listSep L16 fun p => vpt c (wRows c p) f := by
  rw [listSep16]
  have hall : ∀ c e : Dev nD, ∃ p : Fin 16, e.val = (src c p.val).val := by decide
  exact split_parts Finset.univ (fun i : S4096x2048.Idx => (i 0).val / 256) (fun p : Fin 16 => (src c p.val).val) (mem_wRows c)
    (fun p _ p' _ h => src_inj c p p' h) (fun i => ⟨fun _ => by
      have hi : (i 0).val < 4096 := (i 0).isLt
      obtain ⟨p, h⟩ := hall c ⟨(i 0).val / 256, by show _ < 16; omega⟩
      exact ⟨p, Finset.mem_univ _, h⟩,
      fun _ => Finset.mem_univ _⟩)
omit [FloatOps F] in
/-- The gathered weights: the sixteen tiles; a group of them: its four tiles. -/
theorem wt_tiles (c : Dev nD) (f : (cc0_scratch3 : Ref sig .tc).ty.Contents (Elt F)) :
    (part c cc0_scratch3 Finset.univ f : sProp 𝕄) = listSep L16 fun p => vpt c (tileV p) f := by
  rw [listSep16]
  exact split_parts Finset.univ (fun i : S4x1024x2048.Idx => 4 * (i 0).val + (i 1).val / 256) (fun p : Fin 16 => p.val) mem_tile
    (fun p _ p' _ h => Fin.ext h) (fun i => ⟨fun _ => by
      have h0 : (i 0).val < 4 := (i 0).isLt
      have h1 : (i 1).val < 1024 := (i 1).isLt
      exact ⟨⟨4 * (i 0).val + (i 1).val / 256, by omega⟩, Finset.mem_univ _, rfl⟩,
      fun _ => Finset.mem_univ _⟩)
omit [FloatOps F] in
/-- A group's weights are its four tiles. -/
theorem wg_tiles (c : Dev nD) (g : Fin 4) (f : (cc0_scratch3 : Ref sig .tc).ty.Contents (Elt F)) :
    (part c cc0_scratch3 (wgR g).set f : sProp 𝕄) = listSep (LW g) fun p => vpt c (tileV p) f := by
  rw [listSep_eq _ (LW_nodup g)]
  exact split_parts (LW g).toFinset (fun i : S4x1024x2048.Idx => 4 * (i 0).val + (i 1).val / 256) (fun p : Fin 16 => p.val) mem_tile
    (fun p _ p' _ h => Fin.ext h) (fun i => (mem_wg g i).trans ⟨fun h => by
      have h0 : (i 0).val < 4 := (i 0).isLt
      have h1 : (i 1).val < 1024 := (i 1).isLt
      exact ⟨⟨4 * (i 0).val + (i 1).val / 256, by omega⟩, List.mem_toFinset.mpr ((LW_mem g _).mpr (by show (4 * (i 0).val + (i 1).val / 256) / 4 = _; omega)), rfl⟩,
      fun ⟨p, hp, h⟩ => by
        have h1 : (i 1).val < 1024 := (i 1).isLt
        have : p.val / 4 = g.val := (LW_mem g p).mp (List.mem_toFinset.mp hp)
        omega⟩)
omit [FloatOps F] in
/-- The gathered weights are the four groups' weights. -/
theorem wt_groups (c : Dev nD) (f : (cc0_scratch3 : Ref sig .tc).ty.Contents (Elt F)) :
    (part c cc0_scratch3 Finset.univ f : sProp 𝕄) = bigSep Finset.univ fun g : Fin 4 => part c cc0_scratch3 (wgR g).set f :=
  split_parts Finset.univ (fun i : S4x1024x2048.Idx => (i 0).val) (fun g : Fin 4 => g.val) mem_wg (fun g _ g' _ h => Fin.ext h)
    (fun i => ⟨fun _ => ⟨⟨(i 0).val, (i 0).isLt⟩, Finset.mem_univ _, rfl⟩, fun _ => Finset.mem_univ _⟩)

/-! ## What the copies leave -/

omit [FloatOps F] in
/-- A view written whole with what it reads of `g` holds `g`. -/
theorem vpt_write {sp : Space} {s : Shape} {e : EltTy} (c : Dev nD) (v : Memref sig .tc sp s e) (fd g : Buf (Elt F) (v.view.loc (c : Thread nD τ)))
    (w : s.Idx → Elt F e) (h : w = v.view.read (Elt F) g) : (vpt c v (v.view.write (Elt F) fd w Finset.univ) : sProp 𝕄) = vpt c v g :=
  pointsTo_congr fun i hi => by
    obtain ⟨x, rfl⟩ := View.exists_emb_of_mem_set v.view hi
    rw [View.write_emb_of_mem _ _ (Finset.mem_univ x), h, View.read_apply, cast_cast, cast_eq]

/-- Where an element of the rows sent lies in the block. -/
theorem emb_rows (c : Dev nD) (d : Fin 15) (x : S256x256.Idx) (a : Fin 2) :
    ((sendRows c d).view.emb x a : ℕ) = k0_off3 c (BitVec.ofNat 32 (1 + d.val)) a + (x a).val :=
  ValueKit.rect_emb_unit_val (s := S4096x256) (k0_off3 c (BitVec.ofNat 32 (1 + d.val))) S256x256.size (k0_off3_inb c d) x a
/-- Where an element of a slot lies in the gathered columns. -/
theorem emb_slot (d : Fin 15) (x : S256x256.Idx) (a : Fin 2) :
    ((slotV d).view.emb x a : ℕ) = (![0, 256 * (1 + d.val)] : Fin 2 → ℕ) a + (x a).val :=
  ValueKit.rect_emb_unit_val (s := S256x4096) ![0, 256 * (1 + d.val)] S256x256.size (inbSlot d) x a
/-- Where an element of the weight rows lies in the weights. -/
theorem emb_wRows (c : Dev nD) (p : Fin 16) (x : S256x2048.Idx) (a : Fin 2) :
    ((wRows c p).view.emb x a : ℕ) = k0_off1 c (BitVec.ofNat 32 p.val) a + (x a).val :=
  ValueKit.rect_emb_unit_val (s := S4096x2048) (k0_off1 c (BitVec.ofNat 32 p.val)) S256x2048.size (k0_off1_inb c p) x a
/-- Where an element of a tile lies in the gathered weights. -/
theorem emb_tile (p : Fin 16) (x : S256x2048.Idx) :
    ((tileV p).view.emb x 0 : ℕ) = p.val / 4 ∧ ((tileV p).view.emb x 1 : ℕ) = 256 * (p.val % 4) + (x 0).val ∧ ((tileV p).view.emb x 2 : ℕ) = (x 1).val := by
  have hx := Shape.reshapeEquiv_cons_one (d := ![256, 2048]) squeezes_S1x256x2048_S256x2048.numel_eq x
  have f (a : Fin 3) := ValueKit.rect_emb_unit_val (s := S4x1024x2048) ![p.val / 4, 256 * (p.val % 4), 0] S1x256x2048.size (inbTile p)
    (Shape.reshapeEquiv squeezes_S1x256x2048_S256x2048.numel_eq x) a
  refine ⟨(f 0).trans ?_, (f 1).trans ?_, (f 2).trans ?_⟩
  · exact congrArg (p.val / 4 + ·) (congrArg (fun y : S1x256x2048.Idx => (y 0).val) hx)
  · exact congrArg (256 * (p.val % 4) + ·) (congrArg (fun y : S1x256x2048.Idx => (y 1).val) hx)
  · exact (congrArg (0 + ·) (congrArg (fun y : S1x256x2048.Idx => (y 2).val) hx)).trans (Nat.zero_add _)

variable (m : (ℓ : Loc nD τ sig) → Buf (Elt F) ℓ) (ρ : Dev nD → PrngReg)

/-- The rows device `c` sends at distance `d + 1` are what slot `d + 1` of the device there must hold. -/
theorem send_copies (c : Dev nD) (d : Fin 15) : (sendRows c d).view.read (Elt F) (x8At m c) = (slotV d).view.read (Elt F) (xfAt m (pr c d)) := by
  funext x
  have h0 : (x 0).val < 256 := (x 0).isLt
  have h1 : (x 1).val < 256 := (x 1).isLt
  rw [View.read_apply, View.read_apply]
  have e0 : ((sendRows c d).view.emb x 0 : ℕ) = 256 * (pr c d).val + (x 0).val := by
    rw [emb_rows, k0_off3_eq c d]; show 256 * ((c.val + d.val + 1) % 16) + _ = 256 * ((c.val + 1 + d.val) % 16) + _; omega
  have e1 : ((sendRows c d).view.emb x 1 : ℕ) = (x 1).val := by
    rw [emb_rows, k0_off3_eq c d]; exact Nat.zero_add _
  have f0 : ((slotV d).view.emb x 0 : ℕ) = (x 0).val := (emb_slot d x 0).trans (Nat.zero_add _)
  have f1 : ((slotV d).view.emb x 1 : ℕ) = 256 * (1 + d.val) + (x 1).val := emb_slot d x 1
  have hs : src (pr c d) (((slotV d).view.emb x 1 : ℕ) / 256) = c := by
    rw [f1, show (256 * (1 + d.val) + (x 1).val) / 256 = 1 + d.val by omega, src_pr]
  show _root_.cast _ (x8At m c ((sendRows c d).view.emb x)) = _root_.cast _ (x8At m (src (pr c d) (((slotV d).view.emb x 1 : ℕ) / 256)) (ix2 _ _))
  rw [hs]
  congr 2
  refine (ValueIdx.eq_ix2 (n0 := 4096) (n1 := 256) _).trans ?_
  congr 1 <;> apply Fin.ext
  · exact e0.trans (by rw [← f0])
  · exact e1.trans (by show _ = ((slotV d).view.emb x 1 : ℕ) % 256; rw [f1]; omega)

/-- The rows of the weights copied into tile `p` are what it must hold. -/
theorem w_copies (c : Dev nD) (p : Fin 16) :
    (wRows c p).view.read (Elt F) (m ((c : Thread nD τ).loc main_arg1)) = (tileV p).view.read (Elt F) (wtAt m c) := by
  funext x
  have h0 : (x 0).val < 256 := (x 0).isLt
  have h1 : (x 1).val < 2048 := (x 1).isLt
  have hp : p.val < 16 := p.isLt
  rw [View.read_apply, View.read_apply]
  have e0 : ((wRows c p).view.emb x 0 : ℕ) = 256 * (src c p.val).val + (x 0).val := by
    rw [emb_wRows, k0_off1_eq c p, src_val, Nat.mod_eq_of_lt hp]; rfl
  have e1 : ((wRows c p).view.emb x 1 : ℕ) = (x 1).val := by
    rw [emb_wRows, k0_off1_eq c p]; exact Nat.zero_add _
  obtain ⟨f0, f1, f2⟩ := emb_tile p x
  have hs : 4 * ((tileV p).view.emb x 0 : ℕ) + ((tileV p).view.emb x 1 : ℕ) / 256 = p.val := by rw [f0, f1]; omega
  show _root_.cast _ (m ((c : Thread nD τ).loc main_arg1) ((wRows c p).view.emb x)) = _root_.cast _ (m ((c : Thread nD τ).loc main_arg1) (ix2 _ _))
  congr 2
  refine (ValueIdx.eq_ix2 (n0 := 4096) (n1 := 2048) _).trans ?_
  congr 1 <;> apply Fin.ext
  · refine e0.trans ?_
    show _ = 256 * (src c (4 * ((tileV p).view.emb x 0 : ℕ) + ((tileV p).view.emb x 1 : ℕ) / 256)).val + ((tileV p).view.emb x 1 : ℕ) % 256
    rw [hs, f1]; omega
  · exact e1.trans f2.symm

end Cert.KernelIdeal.Ring
end
-- ==== Proof.Steps.lean ====
/- The steps of the body that talk to semaphores: each takes what it needs and a running account of what the device owes,
   and the loops over them follow by one induction. -/
module

public import proofs.«01_k».proof.Proof.Sets

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]
local notation "𝕄" => MT nD τ sig Unit (Elt F) ℕ UU ℕ

variable (m : (ℓ : Loc nD τ sig) → Buf (Elt F) ℓ) (ρ : Dev nD → PrngReg)

/-- No loop needs a bound. -/
abbrev 𝒱₀ : Variants := Variants.none

/-- What a program run by device `c` needs to end with `Q`. -/
abbrev wpc (c : Dev nD) {α : Type} (p : Pg F α) (Q : α → sProp 𝕄) : sProp 𝕄 :=
  wp frame (wpE (defs₀ (F := F)) 𝒱₀ (c : Thread nD τ) none) Set.univ p Q

/-- The record of every cell, and that its round is open. -/
def records (K : Dev nD × CellIx → ℕ) : sProp 𝕄 :=
  iprop((bigSep Finset.univ fun ck : Dev nD × CellIx => cellInv ER (sch m) (K ck) (kcell ck))
    ∗ bigSep Finset.univ fun ck : Dev nD × CellIx => reached ER (kcell ck) 0)
/-- The records can be used again and again. -/
instance records_persistent (K : Dev nD × CellIx → ℕ) : BI.Persistent (records m K) := by unfold records; infer_instance

/-- The records hold each cell's invariant. -/
theorem inv_at (K : Dev nD × CellIx → ℕ) (c : Dev nD) (k : CellIx) : records m K ⊢ cellInv ER (sch m) (K (c, k)) (cell c k) :=
  (sep_elim_left (PROP := sProp 𝕄)).trans (bigSep_elim (Finset.mem_univ (c, k)))
/-- The records say that each cell has reached its round. -/
theorem reached_at (K : Dev nD × CellIx → ℕ) (c : Dev nD) (k : CellIx) : records m K ⊢ reached ER (cell c k) 0 :=
  (sep_elim_right (PROP := sProp 𝕄)).trans (bigSep_elim (Finset.mem_univ (c, k)))

/-- The records, the levels, and the account of device `c`: that it owes `O`. -/
def acct (K : Dev nD × CellIx → ℕ) (c : Dev nD) (O : CellTallies nD τ sig Unit) : sProp 𝕄 :=
  iprop((records m K ∗ levAts L lv) ∗ ∃ W, owes (c : Thread nD τ) O W)

/-! ## Loops -/

/-- A loop whose step turns `A a` and the account for `a` and the rest into `B a` and the account for the rest. -/
theorem wp_each {ι : Type} (c : Dev nD) (f : ι → Pg F PUnit) (A B : ι → sProp 𝕄) (R : List ι → sProp 𝕄)
    (h : ∀ a l, iprop(A a ∗ R (a :: l)) ⊢ wpc c (f a) fun _ => iprop(B a ∗ R l)) (l : List ι) :
    iprop(listSep l A ∗ R l) ⊢ wpc c (each l f) fun _ => iprop(listSep l B ∗ R []) := by
  induction l with
  | nil =>
    show _ ⊢ wpc c (.ret PUnit.unit) _
    rw [wpc, wp_ret]; exact fupd_intro
  | cons a l ih =>
    show iprop((A a ∗ listSep l A) ∗ R (a :: l)) ⊢ wpc c ((f a) >>= fun _ => each l f) fun _ => iprop((B a ∗ listSep l B) ∗ R [])
    rw [wpc, wp_bind]
    iintro ⟨⟨HA, Hl⟩, HR⟩
    iapply (wp_wand (frame) (wpE (defs₀ (F := F)) 𝒱₀ (c : Thread nD τ) none) Set.univ) $$ [HA HR]
    · iapply (h a l)
      isplitl [HA] <;> iassumption
    iintro %u ⟨HB, HR⟩
    iapply (wp_wand (frame) (wpE (defs₀ (F := F)) 𝒱₀ (c : Thread nD τ) none) Set.univ) $$ [Hl HR]
    · iapply ih
      isplitl [Hl] <;> iassumption
    iintro %u ⟨Hl, HR⟩
    isplitl [HB Hl]
    · isplitl [HB] <;> iassumption
    iexact HR

/-! ## The semaphores the body names are the cells -/

/-- The barrier semaphore of a device as a cell. -/
theorem cell_bar (c : Dev nD) : ((c : Thread nD τ), SemLoc.reg barS) = cell c iBar := rfl
/-- The exit semaphore of a device as a cell. -/
theorem cell_exit (c : Dev nD) : ((c : Thread nD τ), SemLoc.reg exitS) = cell c iExit := rfl
/-- A weight semaphore of a device as a cell. -/
theorem cell_w (c : Dev nD) (p : Fin 16) : ((c : Thread nD τ), SemLoc.dma (wA p).sem) = cell c (iW p) := rfl
/-- A send semaphore of a device as a cell. -/
theorem cell_send (c : Dev nD) (d : Fin 15) : ((c : Thread nD τ), SemLoc.dma (sendA d).sem) = cell c (iSend d) := rfl
/-- A receive semaphore of a device as a cell. -/
theorem cell_recv (c : Dev nD) (d : Fin 15) : ((c : Thread nD τ), SemLoc.dma (recvA d).sem) = cell c (iRecv d) := rfl

/-! ## Signals -/

/-- The slot that the peer will fill is what the barrier signal to that peer hands over. -/
theorem bar_pays (c : Dev nD) (d : Fin 15) :
    iprop(∃ f, vpt c (slotV d.rev) f) ⊢ (sch m).payload ((pr c d : Thread nD τ), .reg barS) 0 d.rev := by
  rw [cell_bar, payload_cell]
  show _ ⊢ iprop(∃ f, vpt (pr (pr c d) d.rev) (slotV d.rev) f)
  rw [pr_rev]
/-- An exit signal hands over nothing. -/
theorem exit_pays (c : Dev nD) (d : Fin 15) : (iprop(emp) : sProp 𝕄) ⊢ (sch m).payload ((c : Thread nD τ), .reg exitS) 0 d := by
  rw [cell_exit, payload_cell]; exact BI.Entails.refl _

/-- The signal to the barrier of the device at distance `d + 1` hands over the slot that device will send into. -/
theorem barSignal_step (K : Dev nD × CellIx → ℕ) (c : Dev nD) (O : CellTallies nD τ sig Unit) (d : Fin 15) (l : List (Fin 15)) :
    iprop(((∃ f, vpt c (slotV d.rev) f) ∗ dutyTok ER (cell (pr c d) iBar) 0 d.rev) ∗ acct m K c (O + barO c (d :: l)))
      ⊢ wpc c (barSignal c d) fun _ => iprop(emp ∗ acct m K c (O + barO c l)) := by
  unfold barSignal semSignalWord acct
  rw [devBar_eq]
  iintro ⟨⟨Hs, Ht⟩, ⟨#HR, #HL⟩, ⟨%W, HO⟩⟩
  iapply (Rounds.wp_signal 𝒱₀ ER (sch m) (c : Thread nD τ) none (dst := (pr c d : Thread nD τ)) (κ := K (pr c d, iBar)) (sem := barS)
      (d := d.rev) (r := 0) (by rw [cell_bar, duties_cell]; exact Finset.mem_univ _)
      ((amount_cell m (pr c d) iBar 0 d.rev).trans amt_bar) () (O + barO c l) (add_assoc _ _ _).symm) $$ [HO Hs Ht]
  · isplitr; · iapply (inv_at m K (pr c d) iBar); iexact HR
    isplitl [HO]; · iexact HO
    isplitl [Ht]; · iexact Ht
    isplitl [Hs]; · iapply (bar_pays m c d); iexact Hs
    iapply (reached_at m K (pr c d) iBar); iexact HR
  iintro HO
  rw [wp_ret]; imodintro
  isplitr; · iempintro
  isplitr
  · isplitr <;> iassumption
  iexists W; iexact HO

/-- The signal to the exit semaphore hands over nothing. -/
theorem exitSignal_step (K : Dev nD × CellIx → ℕ) (c : Dev nD) (d : Fin 15) (l : List (Fin 15)) :
    iprop(dutyTok ER (cell (pr c d) iExit) 0 d ∗ acct m K c (exitO c (d :: l)))
      ⊢ wpc c (exitSignal c d) fun _ => iprop(emp ∗ acct m K c (exitO c l)) := by
  unfold exitSignal semSignalWord acct
  rw [devExit_eq]
  iintro ⟨Ht, ⟨#HR, #HL⟩, ⟨%W, HO⟩⟩
  iapply (Rounds.wp_signal 𝒱₀ ER (sch m) (c : Thread nD τ) none (dst := (pr c d : Thread nD τ)) (κ := K (pr c d, iExit)) (sem := exitS)
      (d := d) (r := 0) (by rw [cell_exit, duties_cell]; exact Finset.mem_univ _)
      ((amount_cell m (pr c d) iExit 0 d).trans amt_exit) () (exitO c l) rfl) $$ [HO Ht]
  · isplitr; · iapply (inv_at m K (pr c d) iExit); iexact HR
    isplitl [HO]; · iexact HO
    isplitl [Ht]; · iexact Ht
    isplitr; · iapply (exit_pays m (pr c d) d); iempintro
    iapply (reached_at m K (pr c d) iExit); iexact HR
  iintro HO
  rw [wp_ret]; imodintro
  isplitr; · iempintro
  isplitr
  · isplitr <;> iassumption
  iexists W; iexact HO

/-! ## Copies -/

/-- Starting the copy of weight rows into tile `p` leaves the credit to wait for it. -/
theorem wStart_step (K : Dev nD × CellIx → ℕ) (c : Dev nD) (O : CellTallies nD τ sig Unit) (p : Fin 16) (l : List (Fin 16)) :
    iprop(((∃ f, vpt c (tileV p) f) ∗ vpt c (wRows c p) (m ((c : Thread nD τ).loc main_arg1)) ∗ dutyTok ER (cell c (iW p)) 0 0) ∗ acct m K c O)
      ⊢ wpc c (wStart c p) fun _ => iprop(cred (tallyAt (cell c (iW p)) () NW) ∗ acct m K c O) := by
  unfold wStart acct
  iintro ⟨⟨⟨%f, Hd⟩, Hs, Ht⟩, ⟨#HR, #HL⟩, HO⟩
  unfold vpt
  iapply (Rounds.wp_copy_pointsTo 𝒱₀ ER (sch m) (c : Thread nD τ) none (κ := K (c, iW p)) (r := 0) (d := 0) (sem := .dma (wA p).sem)
      (src := wRows c p) (dst := tileV p)
      (fs := m ((c : Thread nD τ).loc main_arg1)) (fd := f)
      (by rw [cell_w, duties_cell]; exact Finset.mem_singleton_self _)
      () NW rfl ((amount_cell m c (iW p) 0 0).trans (amt_w p)) (by
        rw [cell_w, payload_cell]
        show _ ⊢ iprop(vpt c (tileV p) (wtAt m c) ∗ vpt c (wRows c p) (m ((c : Thread nD τ).loc main_arg1)))
        rw [← vpt_write c (tileV p) f (wtAt m c) _ (w_copies m c p)]; exact BI.Entails.refl _)) $$ [Hd Hs Ht]
  · isplitr; · iapply (inv_at m K c (iW p)); iexact HR
    isplitl [Hs]; · iexact Hs
    isplitl [Hd]; · iexact Hd
    isplitl [Ht]; · iexact Ht
    iapply (reached_at m K c (iW p)); iexact HR
  iintro Hc
  rw [wp_ret]; imodintro
  isplitl [Hc]; · iexact Hc
  isplitr
  · isplitr <;> iassumption
  iexact HO

end Cert.KernelIdeal.Ring
end
-- ==== Proof.Phases.lean ====
/- The remaining steps of the body: the sends, the waits, the loads and stores, the copy of the result. -/
module

public import proofs.«01_k».proof.Proof.Steps

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]
local notation "𝕄" => MT nD τ sig Unit (Elt F) ℕ UU ℕ

variable (m : (ℓ : Loc nD τ sig) → Buf (Elt F) ℓ) (ρ : Dev nD → PrngReg)

/-- A program after another. -/
theorem wp_then (c : Dev nD) {α : Type} {p : Pg F PUnit} {A B : sProp 𝕄} (h : A ⊢ wpc c p fun _ => B) (k : Pg F α) (Q : α → sProp 𝕄) :
    iprop(A ∗ (B -∗ wpc c k Q)) ⊢ wpc c (p.bind fun _ => k) Q := by
  show _ ⊢ wpc c (p >>= fun _ => k) Q
  unfold wpc
  rw [wp_bind]
  iintro ⟨HA, Hk⟩
  iapply (wp_wand (frame) (wpE (defs₀ (F := F)) 𝒱₀ (c : Thread nD τ) none) Set.univ) $$ [HA]
  · iapply h; iexact HA
  iintro %u HB
  iapply Hk; iexact HB

/-! ## The sends -/

/-- The rows sent are what the send's departure hands back. -/
theorem send_pays (c : Dev nD) (d : Fin 15) :
    (vpt c (sendRows c d) (x8At m c) : sProp 𝕄) ⊢ (sch m).payload ((c : Thread nD τ), .dma (sendA d).sem) 0 0 := by
  rw [cell_send, payload_cell]; exact BI.Entails.refl _
/-- The slot with the rows written into it is what the send's arrival hands over. -/
theorem recv_pays (c e : Dev nD) (d : Fin 15) (f) (he : e = pr c d) :
    (vpt e (slotV d) ((slotV d).view.write (Elt F) f ((sendRows c d).view.read (Elt F) (x8At m c)) Finset.univ) : sProp 𝕄)
      ⊢ (sch m).payload ((e : Thread nD τ), .dma (recvA d).sem) 0 0 := by
  subst he
  rw [cell_recv, payload_cell]
  show _ ⊢ vpt (pr c d) (slotV d) (xfAt m (pr c d))
  rw [← vpt_write (pr c d) (slotV d) f (xfAt m (pr c d)) _ (send_copies m c d)]

/-- The send at distance `d + 1` hands its rows to the send cell and the filled slot to the receive cell there. -/
theorem send_to (K : Dev nD × CellIx → ℕ) (c n : Dev nD) (d : Fin 15) (hn : n = pr c d) (O : CellTallies nD τ sig Unit) (l : List (Fin 15))
    {hsc : (slotV d : Memref sig (Dev.tc n : Thread nD τ).2.kind .vmem S256x256 .fp8e5m2).view.ref.isScScratch = false}
    {hsrc : (sendRows c d).view.WordExact} {hdst : (slotV d : Memref sig .tc .vmem S256x256 .fp8e5m2).view.WordExact}
    {hsem : DmaTarget.Typed .vmem (.dma (recvA d).sem) (.remote (Dev.tc n : Thread nD τ) (slotV d : Memref sig .tc .vmem S256x256 .fp8e5m2) (.dma (sendA d).sem) hsc)} :
    iprop((vpt c (sendRows c d) (x8At m c) ∗ (∃ f, vpt (pr c d) (slotV d) f) ∗ dutyTok ER (cell c (iSend d)) 0 0
        ∗ dutyTok ER (cell (pr c d) (iRecv d)) 0 0) ∗ acct m K c (O + sendO c (d :: l)))
      ⊢ wpc c (.op (.enqueueDma (sendRows c d) (.remote (Dev.tc n : Thread nD τ) (slotV d) (.dma (sendA d).sem) hsc) (.dma (recvA d).sem) hsrc hdst hsem) .ret)
          fun _ => iprop(cred (tallyAt (cell c (iSend d)) () NX) ∗ acct m K c (O + sendO c l)) := by
  subst hn
  unfold acct
  iintro ⟨⟨Hs, ⟨%f, Hd⟩, Ht, Ht'⟩, ⟨#HR, #HL⟩, ⟨%W, HO⟩⟩
  unfold vpt
  iapply (Rounds.wp_send_pointsTo 𝒱₀ ER (sch m) (c : Thread nD τ) none (c' := (pr c d : Thread nD τ)) (κ₁ := K (c, iSend d)) (κ₂ := K (pr c d, iRecv d))
      (r₁ := 0) (r₂ := 0) (d₁ := 0) (d₂ := 0) (sS := .dma (sendA d).sem) (sem := .dma (recvA d).sem)
      (src := sendRows c d) (dst := slotV d) (fs := x8At m c) (fd := f)
      (by rw [cell_send, duties_cell]; exact Finset.mem_singleton_self _) (by rw [cell_recv, duties_cell]; exact Finset.mem_singleton_self _)
      () () NX (slot_credit d) ((amount_cell m c (iSend d) 0 0).trans (amt_send d)) ((amount_cell m (pr c d) (iRecv d) 0 0).trans (amt_recv d))
      (O + sendO c l) (add_assoc _ _ _).symm (W := W)
      (send_pays m c d) (recv_pays m c (pr c d) d f rfl)) $$ [Hd Hs Ht Ht' HO]
  · isplitr; · iapply (inv_at m K c (iSend d)); iexact HR
    isplitr; · iapply (inv_at m K (pr c d) (iRecv d)); iexact HR
    isplitl [Hs]; · iexact Hs
    isplitl [Hd]; · iexact Hd
    isplitl [HO]; · iexact HO
    isplitl [Ht]; · iexact Ht
    isplitr; · iapply (reached_at m K c (iSend d)); iexact HR
    isplitl [Ht']; · iexact Ht'
    iapply (reached_at m K (pr c d) (iRecv d)); iexact HR
  iintro ⟨Hc, HO⟩
  rw [wp_ret]; imodintro
  isplitl [Hc]; · iexact Hc
  isplitr
  · isplitr <;> iassumption
  iexists W; iexact HO

/-- One send: the rows and the peer's slot go into it, and one debt is paid. -/
theorem send_step (K : Dev nD × CellIx → ℕ) (c : Dev nD) (O : CellTallies nD τ sig Unit) (d : Fin 15) (l : List (Fin 15)) :
    iprop((vpt c (sendRows c d) (x8At m c) ∗ (∃ f, vpt (pr c d) (slotV d) f) ∗ dutyTok ER (cell c (iSend d)) 0 0
        ∗ dutyTok ER (cell (pr c d) (iRecv d)) 0 0) ∗ acct m K c (O + sendO c (d :: l)))
      ⊢ wpc c (send c d) fun _ => iprop(cred (tallyAt (cell c (iSend d)) () NX) ∗ acct m K c (O + sendO c l)) :=
  send_to m K c (devSend c d) d (devSend_eq c d) O l

/-! ## The waits -/

/-- A wait for the whole round of one of the device's own cells hands over what the round brought. -/
theorem wait_step (K : Dev nD × CellIx → ℕ) (c : Dev nD) (O : CellTallies nD τ sig Unit) (k : CellIx) (N n : ℕ)
    (w : TpuEff nD τ sig (Elt F) Λ₀ .tc PUnit)
    (hw : ∀ Q : PUnit → sProp 𝕄, wpE (defs₀ (F := F)) 𝒱₀ (c : Thread nD τ) none Set.univ w Q = waitSpec (c : Thread nD τ) Set.univ (csem k) N Q)
    (hN : N = (dut (some k)).card * amt (some k)) (hn : lvk (some k) ≤ n) (hO : Above n O) :
    iprop((cred (tallyAt (cell c k) () N) ∗ atPos ER (cell c k) 0 ∅ 0) ∗ acct m K c O)
      ⊢ wpc c (.op w .ret) fun _ => iprop((bigSep (dut (some k)) (pay m c (some k)) ∗ atPos ER (cell c k) (0 + 1) ∅ 0) ∗ acct m K c O) := by
  unfold acct
  iintro ⟨⟨Hc, Ha⟩, ⟨#HR, #HL⟩, ⟨%W, HO⟩⟩
  iapply (Rounds.wp_wait_rest_token 𝒱₀ ER (sch m) (c : Thread nD τ) none (κ := K (c, k)) (sm := csem k) (k' := N)
      hw (Set.mem_univ _) () (O := O) (W := W) (R := 0) (m := 0) (T := ∅)
      ((Nat.zero_add N).trans (hN.trans (expect_cell m c k).symm))) $$ [Hc HO Ha]
  · isplitr; · iapply (inv_at m K c k); iexact HR
    isplitl [Hc]; · iexact Hc
    isplitl [HO]; · iexact HO
    isplitr; · iapply (mayWait_of (F := F) c (csem k) (n := n) (by rw [kd_csem]; exact hn) hO); iexact HL
    iexact Ha
  iintro ⟨HO, Ha, -, Hp⟩
  ihave Hp' := (Entails.of_eq (rest_cell m c k)) $$ Hp
  rw [wp_ret]; imodintro
  isplitl [Hp' Ha]
  · isplitl [Hp'] <;> iassumption
  isplitr
  · isplitr <;> iassumption
  iexists _; iexact HO

/-- The amount that is waited for at a cell that is raised once. -/
theorem card_one (N : ℕ) (k : CellIx) (hk : dut (some k) = {0}) (h : amt (some k) = N) : N = (dut (some k)).card * amt (some k) := by
  rw [hk, Finset.card_singleton, one_mul, h]
/-- The amount that is waited for at a cell that is raised from fifteen distances. -/
theorem card_all (k : CellIx) (hk : dut (some k) = Finset.univ) (h : amt (some k) = 1) : 15 = (dut (some k)).card * amt (some k) := by
  rw [hk, h, Finset.card_univ, Fintype.card_fin]

/-- One wait for a weight tile gives the tile, filled, and the rows it was read from. -/
theorem wWait_step (K : Dev nD × CellIx → ℕ) (c : Dev nD) (O : CellTallies nD τ sig Unit) (n : ℕ) (hO : Above n O) (p : Fin 16) (l : List (Fin 16)) :
    iprop((cred (tallyAt (cell c (iW p)) () NW) ∗ atPos ER (cell c (iW p)) 0 ∅ 0) ∗ acct m K c O)
      ⊢ wpc c (wWait c p) fun _ => iprop(((vpt c (tileV p) (wtAt m c) ∗ vpt c (wRows c p) (m ((c : Thread nD τ).loc main_arg1)))
          ∗ atPos ER (cell c (iW p)) (0 + 1) ∅ 0) ∗ acct m K c O) := by
  have h := wait_step m K c O (iW p) NW n (.waitDma2 (wA p).sem (wRows c p) (tileV p) (View.wordExact_bits rfl) ((View.wordExact_bits rfl).reshape _ _))
    (fun Q => by rw [← tile_credit p]; exact wpE_waitDma2_eq 𝒱₀ (c : Thread nD τ) none Set.univ Q)
    (card_one _ _ rfl (amt_w p)) (Nat.zero_le n) hO
  rw [show dut (some (iW p)) = {0} from rfl, bigSep_singleton] at h
  exact h
/-- One wait for a receive gives the slot, filled. -/
theorem recvWait_step (K : Dev nD × CellIx → ℕ) (c : Dev nD) (O : CellTallies nD τ sig Unit) (n : ℕ) (hn : 2 ≤ n) (hO : Above n O) (d : Fin 15) (l : List (Fin 15)) :
    iprop((cred (tallyAt (cell c (iRecv d)) () NX) ∗ atPos ER (cell c (iRecv d)) 0 ∅ 0) ∗ acct m K c O)
      ⊢ wpc c (recvWait d) fun _ => iprop((vpt c (slotV d) (xfAt m c) ∗ atPos ER (cell c (iRecv d)) (0 + 1) ∅ 0) ∗ acct m K c O) := by
  have h := wait_step m K c O (iRecv d) NX n
    (.waitDma2 (recvA d).sem waitRows (slotV d) (hx8.wordExact_slice rfl _ wordsfp8e5m2_S4096x256_S256x256_0_0) (hxf.wordExact_slice rfl _ (wordsSlot d)))
    (fun Q => by rw [← slot_credit d]; exact wpE_waitDma2_eq 𝒱₀ (c : Thread nD τ) none Set.univ Q)
    (card_one _ _ rfl (amt_recv d)) hn hO
  rw [show dut (some (iRecv d)) = {0} from rfl, bigSep_singleton] at h
  exact h
/-- One wait for a send gives the rows back. -/
theorem sendWait_step (K : Dev nD × CellIx → ℕ) (c : Dev nD) (O : CellTallies nD τ sig Unit) (n : ℕ) (hO : Above n O) (d : Fin 15) (l : List (Fin 15)) :
    iprop((cred (tallyAt (cell c (iSend d)) () NX) ∗ atPos ER (cell c (iSend d)) 0 ∅ 0) ∗ acct m K c O)
      ⊢ wpc c (sendWait c d) fun _ => iprop((vpt c (sendRows c d) (x8At m c) ∗ atPos ER (cell c (iSend d)) (0 + 1) ∅ 0) ∗ acct m K c O) := by
  have h := wait_step m K c O (iSend d) NX n
    (.waitDma2 (sendA d).sem (slotV d) (sendRows c d) (hxf.wordExact_slice rfl _ (wordsSlot d)) (hx8.wordExact_slice rfl _ (k0_off3_wordsfp8e5m2 c d)))
    (fun Q => by rw [← rows_credit c d]; exact wpE_waitDma2_eq 𝒱₀ (c : Thread nD τ) none Set.univ Q)
    (card_one _ _ rfl (amt_send d)) (Nat.zero_le n) hO
  rw [show dut (some (iSend d)) = {0} from rfl, bigSep_singleton] at h
  exact h
/-- The barrier wait brings the slots the device will send into. -/
theorem barWait_step (K : Dev nD × CellIx → ℕ) (c : Dev nD) (O : CellTallies nD τ sig Unit) (hO : Above 1 O) :
    iprop((cred (tallyAt (cell c iBar) () 15) ∗ atPos ER (cell c iBar) 0 ∅ 0) ∗ acct m K c O)
      ⊢ wpc c barWait fun _ => iprop((listSep L15 (fun d => iprop(∃ f, vpt (pr c d) (slotV d) f)) ∗ atPos ER (cell c iBar) (0 + 1) ∅ 0) ∗ acct m K c O) := by
  have h := wait_step m K c O iBar 15 1 (.semWait barS (15#32).toInt) (fun Q => wpE_semWait_eq 𝒱₀ (c : Thread nD τ) none Set.univ Q)
    (card_all _ rfl amt_bar) (le_refl 1) hO
  rw [show dut (some iBar) = Finset.univ from rfl, ← listSep15] at h
  exact h
/-- The wait for the fifteen exit signals, when nothing is owed any more. -/
theorem exitWait_step (K : Dev nD × CellIx → ℕ) (c : Dev nD) :
    iprop((cred (tallyAt (cell c iExit) () 15) ∗ atPos ER (cell c iExit) 0 ∅ 0) ∗ acct m K c 0)
      ⊢ wpc c (semWaitWord cc0_scratch8.sem 15#32) fun _ => iprop((bigSep Finset.univ (pay m c (some iExit)) ∗ atPos ER (cell c iExit) (0 + 1) ∅ 0) ∗ acct m K c 0) :=
  wait_step m K c 0 iExit 15 3 (.semWait exitS (15#32).toInt) (fun Q => wpE_semWait_eq 𝒱₀ (c : Thread nD τ) none Set.univ Q)
    (card_all _ rfl amt_exit) (le_refl 3) (above_zero 3)

end Cert.KernelIdeal.Ring
end
-- ==== Proof.Compute.lean ====
/- The parts of the body that compute: the rounding, the four products, the scaled and clipped result. -/
module

public import proofs.«01_k».proof.Proof.Phases

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Cert.KernelIdeal.Gen

variable {F : FTy → Type} [FloatOps F]
local notation "𝕄" => MT nD τ sig Unit (Elt F) ℕ UU ℕ

variable (m : (ℓ : Loc nD τ sig) → Buf (Elt F) ℓ) (ρ : Dev nD → PrngReg)

/-! ## What the rectangles of whole buffers touch -/

/-- The offset at the origin, in rank two. -/
theorem hz : (![0, 0] : Fin 2 → Nat) = fun _ => 0 := funext fun a => by fin_cases a <;> rfl
/-- A load of a rectangle reads no more than the rectangle. -/
theorem rect_sub (b : Ref sig .tc) (r : Rect b.ty.shape) : ((Memref.whole b).view.setOn r.toLoadRect.set : Finset b.ty.Idx) ⊆ r.set :=
  ((View.set_slice (.whole b) r).symm.trans (View.set_slice_whole b r)).subset
/-- A store into a rectangle writes no more than the rectangle. -/
theorem store_sub (b : Ref sig .tc) (r : Rect b.ty.shape) : (((Memref.whole b).access r).setOn Finset.univ : Finset b.ty.Idx) ⊆ r.set :=
  (View.set_slice_whole b r).subset

/-- The device's own rows of the rounded block are what slot 0 must hold. -/
theorem own_copies (c : Dev nD) : k0_pay3 (x8M.view.readAt (Elt F) (ownR c).toLoadRect (x8At m c)) = (xfM.access slot0R).read (Elt F) (xfAt m c) := by
  unfold k0_pay3
  rw [shapeCast_self]
  funext x
  have h0 : (x 0).val < 256 := (x 0).isLt
  have h1 : (x 1).val < 256 := (x 1).isLt
  have e0 : (((x8M.access (ownR c)).emb x : S4096x256.Idx) 0 : ℕ) = 256 * c.val + (x 0).val := by
    exact (ValueKit.rect_emb_unit_val (s := S4096x256) (k0_off2 c) S256x256.size (k0_off2_inb c) x 0).trans
      (congrArg (· + (x 0).val) (congrFun (k0_off2_eq c) 0))
  have e1 : (((x8M.access (ownR c)).emb x : S4096x256.Idx) 1 : ℕ) = (x 1).val := by
    exact (ValueKit.rect_emb_unit_val (s := S4096x256) (k0_off2 c) S256x256.size (k0_off2_inb c) x 1).trans
      ((congrArg (· + (x 1).val) (congrFun (k0_off2_eq c) 1)).trans (Nat.zero_add _))
  have f0 : (((xfM.access slot0R).emb x : S256x4096.Idx) 0 : ℕ) = (x 0).val :=
    (ValueKit.rect_emb_unit_val (s := S256x4096) ![0, 0] S256x256.size inb_S256x4096_S256x256_0_0 x 0).trans (Nat.zero_add _)
  have f1 : (((xfM.access slot0R).emb x : S256x4096.Idx) 1 : ℕ) = (x 1).val :=
    (ValueKit.rect_emb_unit_val (s := S256x4096) ![0, 0] S256x256.size inb_S256x4096_S256x256_0_0 x 1).trans (Nat.zero_add _)
  have hs0 : ∀ c : Dev nD, src c 0 = c := by decide
  have hs : src c ((((xfM.access slot0R).emb x : S256x4096.Idx) 1 : ℕ) / 256) = c := by
    rw [f1, Nat.div_eq_of_lt h1, hs0]
  show (x8M.access (ownR c)).read (Elt F) (x8At m c) x = _
  rw [View.read_apply, View.read_apply]
  show _root_.cast _ (x8At m c ((x8M.access (ownR c)).emb x)) = _root_.cast _ (x8At m (src c ((((xfM.access slot0R).emb x : S256x4096.Idx) 1 : ℕ) / 256)) (ix2 _ _))
  rw [hs]
  congr 2
  refine (eq_ix2 (n0 := 4096) (n1 := 256) _).trans ?_
  congr 1 <;> apply Fin.ext
  · exact e0.trans (by rw [← f0])
  · exact e1.trans (by show _ = (((xfM.access slot0R).emb x : S256x4096.Idx) 1 : ℕ) % 256; rw [f1, Nat.mod_eq_of_lt h1])

/-- Slot 0 written with the device's own rows. -/
theorem own_part (c : Dev nD) (f : (cc0_scratch2 : Ref sig .tc).ty.Contents (Elt F)) :
    (part c cc0_scratch2 slot0R.set ((xfM.access slot0R).write (Elt F) f (k0_pay3 (x8M.view.readAt (Elt F) (ownR c).toLoadRect (x8At m c))) Finset.univ) : sProp 𝕄)
      = part c cc0_scratch2 slot0R.set (xfAt m c) :=
  pointsTo_congr fun i hi => by
    obtain ⟨x, rfl⟩ := View.exists_emb_of_mem_set (xfM.access slot0R) ((Finset.ext_iff.mp (View.set_slice_whole cc0_scratch2 slot0R) i).mpr hi)
    rw [View.write_emb_of_mem _ _ (Finset.mem_univ x), own_copies, View.read_apply, cast_cast, cast_eq]

set_option maxHeartbeats 800000 in
/-- The rounding. -/
theorem round_step (c : Dev nD) :
    iprop(part c cc0_stg0_0 Finset.univ (xAt m c) ∗ (∃ f, part c cc0_scratch1 Finset.univ f) ∗ (∃ f, part c cc0_scratch2 slot0R.set f))
      ⊢ wpc c (round c) fun _ => iprop(part c cc0_stg0_0 Finset.univ (xAt m c) ∗ part c cc0_scratch1 Finset.univ (x8At m c) ∗ part c cc0_scratch2 slot0R.set (xfAt m c)) := by
  unfold round
  iintro ⟨Hx, ⟨%f, H8⟩, ⟨%g, H0⟩⟩
  iapply (wp_load 𝒱₀ (c : Thread nD τ) none Set.univ (m := xM) (Finset.subset_univ _)) $$ Hx; iintro Hx
  rw [show xM.view.readAt (Elt F) xR.toLoadRect (xAt m c) = xAt m c from Memref.readAt_unit_zero (Elt F) cc0_stg0_0 hz _ _]
  iapply (wp_load 𝒱₀ (c : Thread nD τ) none Set.univ (m := x8M) (Finset.subset_univ _)) $$ H8; iintro H8
  iapply (wp_store 𝒱₀ (c : Thread nD τ) none Set.univ (m := x8M) (r := xR) (Mk := Finset.univ) (Finset.subset_univ _)) $$ H8; iintro H8
  rw [show (x8M.access xR).write (Elt F) f (k0_pay2 (xAt m c)) Finset.univ = x8At m c from Memref.write_access_unit_zero_univ (Elt F) cc0_scratch1 hz _ f _]
  iapply (wp_load 𝒱₀ (c : Thread nD τ) none Set.univ (m := x8M) (Finset.subset_univ _)) $$ H8; iintro H8
  iapply (wp_load 𝒱₀ (c : Thread nD τ) none Set.univ (m := xfM) (rect_sub cc0_scratch2 slot0R)) $$ H0; iintro H0
  iapply (wp_store 𝒱₀ (c : Thread nD τ) none Set.univ (m := xfM) (r := slot0R) (Mk := Finset.univ) (store_sub cc0_scratch2 slot0R)) $$ H0; iintro H0
  rw [wp_ret]; imodintro
  isplitl [Hx]; · iexact Hx
  isplitl [H8]; · iexact H8
  ihave H := (Entails.of_eq (own_part m c g)) $$ H0
  iexact H

/-- The first product. -/
theorem first_step (c : Dev nD) :
    iprop(part c cc0_scratch2 (xgR 0).set (xfAt m c) ∗ part c cc0_scratch3 (wgR 0).set (wtAt m c) ∗ (∃ f, part c cc0_scratch0 Finset.univ f))
      ⊢ wpc c (first 0) fun _ => iprop(part c cc0_scratch2 (xgR 0).set (xfAt m c) ∗ part c cc0_scratch3 (wgR 0).set (wtAt m c)
          ∗ part c cc0_scratch0 Finset.univ (acc0 m c)) := by
  unfold first
  iintro ⟨Hx, Hw, ⟨%g, Ha⟩⟩
  iapply (wp_load 𝒱₀ (c : Thread nD τ) none Set.univ (m := xfM) (rect_sub cc0_scratch2 (xgR 0))) $$ Hx; iintro Hx
  rw [show xfM.view.readAt (Elt F) (xgR 0).toLoadRect (xfAt m c) = xg m c 0 from rfl]
  iapply (wp_load 𝒱₀ (c : Thread nD τ) none Set.univ (m := wtM) (rect_sub cc0_scratch3 (wgR 0))) $$ Hw; iintro Hw
  rw [show wtM.view.readAt (Elt F) (wgR 0).toLoadRect (wtAt m c) = wg m c 0 from rfl]
  iapply (wp_load 𝒱₀ (c : Thread nD τ) none Set.univ (m := accM) (Finset.subset_univ _)) $$ Ha; iintro Ha
  iapply (wp_store 𝒱₀ (c : Thread nD τ) none Set.univ (m := accM) (r := aR) (Mk := Finset.univ) (Finset.subset_univ _)) $$ Ha; iintro Ha
  rw [wp_ret]; imodintro
  isplitl [Hx]; · iexact Hx
  isplitl [Hw]; · iexact Hw
  ihave H := (Entails.of_eq (congrArg (part (F := F) c cc0_scratch0 Finset.univ)
    (show (accM.access aR).write (Elt F) g (k0_pay4 (xg m c 0) (wg m c 0)) Finset.univ = acc0 m c from Memref.write_access_unit_zero_univ (Elt F) cc0_scratch0 hz _ g _))) $$ Ha
  iexact H

/-- A later product, added to the running sum. -/
theorem next_step (c : Dev nD) (g : Fin 4) (pay : Vec F S256x1024 .fp8e5m2 → Vec F S1x1024x2048 .f32 → Vec F S256x2048 .f32 → FVec F S256x2048 .f32)
    (a : Vec F S256x2048 .f32) :
    iprop(part c cc0_scratch2 (xgR g).set (xfAt m c) ∗ part c cc0_scratch3 (wgR g).set (wtAt m c) ∗ part c cc0_scratch0 Finset.univ a)
      ⊢ wpc c (next g pay) fun _ => iprop(part c cc0_scratch2 (xgR g).set (xfAt m c) ∗ part c cc0_scratch3 (wgR g).set (wtAt m c)
          ∗ part c cc0_scratch0 Finset.univ (pay (xg m c g) (wg m c g) a)) := by
  unfold next
  iintro ⟨Hx, Hw, Ha⟩
  iapply (wp_load 𝒱₀ (c : Thread nD τ) none Set.univ (m := xfM) (rect_sub cc0_scratch2 (xgR g))) $$ Hx; iintro Hx
  rw [show xfM.view.readAt (Elt F) (xgR g).toLoadRect (xfAt m c) = xg m c g from rfl]
  iapply (wp_load 𝒱₀ (c : Thread nD τ) none Set.univ (m := wtM) (rect_sub cc0_scratch3 (wgR g))) $$ Hw; iintro Hw
  rw [show wtM.view.readAt (Elt F) (wgR g).toLoadRect (wtAt m c) = wg m c g from rfl]
  iapply (wp_load 𝒱₀ (c : Thread nD τ) none Set.univ (m := accM) (Finset.subset_univ _)) $$ Ha; iintro Ha
  rw [show accM.view.readAt (Elt F) aR.toLoadRect a = a from Memref.readAt_unit_zero (Elt F) cc0_scratch0 hz _ _]
  iapply (wp_load 𝒱₀ (c : Thread nD τ) none Set.univ (m := accM) (Finset.subset_univ _)) $$ Ha; iintro Ha
  iapply (wp_store 𝒱₀ (c : Thread nD τ) none Set.univ (m := accM) (r := aR) (Mk := Finset.univ) (Finset.subset_univ _)) $$ Ha; iintro Ha
  rw [wp_ret]; imodintro
  isplitl [Hx]; · iexact Hx
  isplitl [Hw]; · iexact Hw
  ihave H := (Entails.of_eq (congrArg (part (F := F) c cc0_scratch0 Finset.univ)
    (show (accM.access aR).write (Elt F) a (pay (xg m c g) (wg m c g) a) Finset.univ = pay (xg m c g) (wg m c g) a from Memref.write_access_unit_zero_univ (Elt F) cc0_scratch0 hz _ a _))) $$ Ha
  iexact H

/-! ## The result -/

/-- The offset at the origin, in rank one. -/
theorem hz1 : (![0] : Fin 1 → Nat) = fun _ => 0 := funext fun a => by fin_cases a; rfl
/-- An array of one element has one index. -/
theorem one_idx (i : S1.Idx) : i = ix1 (n := 1) 0 := funext fun a => by
  have ha : a = 0 := Subsingleton.elim _ _
  subst ha
  have h : (i 0).val < 1 := (i 0).isLt
  exact Fin.ext (by show (i 0).val = 0; omega)
/-- What the load of the first scale reads. -/
theorem read_s1 (c : Dev nD) (i : S1.Idx) : s1M.view.readAt (Elt F) oneR.toLoadRect (s1At m c) i = s1At m c (ix1 (n := 1) 0) :=
  (congrFun (Memref.readAt_unit_zero (Elt F) cc0_stg1_0 hz1 _ (s1At m c)) i).trans (congrArg (s1At m c) (one_idx i))
/-- What the load of the second scale reads. -/
theorem read_s2 (c : Dev nD) (i : S1.Idx) : s2M.view.readAt (Elt F) oneR.toLoadRect (s2At m c) i = s2At m c (ix1 (n := 1) 0) :=
  (congrFun (Memref.readAt_unit_zero (Elt F) cc0_stg2_0 hz1 _ (s2At m c)) i).trans (congrArg (s2At m c) (one_idx i))
/-- The running sum, as a buffer and as a view. -/
theorem acc_whole (c : Dev nD) (f : (cc0_scratch0 : Ref sig .tc).ty.Contents (Elt F)) : (part c cc0_scratch0 Finset.univ f : sProp 𝕄) = vpt c accM f := by
  unfold vpt; rw [show accM.view.set = Finset.univ from View.set_whole _]
/-- The result, as a buffer and as a view. -/
theorem o_whole (c : Dev nD) (f : (main_v1 : Ref sig .tc).ty.Contents (Elt F)) : (part c main_v1 Finset.univ f : sProp 𝕄) = vpt c oM f := by
  unfold vpt; rw [show oM.view.set = Finset.univ from View.set_whole _]

/-- The semaphore of the result's copy as a cell. -/
theorem cell_out (c : Dev nD) : ((c : Thread nD τ), SemLoc.dma cc0_scratch7.sem) = cell c iOut := rfl
/-- The result with the sum written into it, and the sum, are what the result's copy hands over. -/
theorem out_pays (c : Dev nD) (f : Buf (Elt F) (oM.view.loc (c : Thread nD τ))) :
    iprop((oM.view.loc (c : Thread nD τ) ↦[oM.view.set]{fullShare} (oM.view.write (Elt F) f (accM.view.read (Elt F) (outAt m c)) Finset.univ))
      ∗ (accM.view.loc (c : Thread nD τ) ↦[accM.view.set]{fullShare} (outAt m c))) ⊢ (sch m).payload ((c : Thread nD τ), .dma cc0_scratch7.sem) 0 0 := by
  rw [cell_out, payload_cell]
  show iprop(vpt c oM (oM.view.write (Elt F) f (accM.view.read (Elt F) (outAt m c)) Finset.univ) ∗ vpt c accM (outAt m c))
    ⊢ iprop(vpt c oM (outAt m c) ∗ vpt c accM (outAt m c))
  rw [vpt_write c oM f (outAt m c) (accM.view.read (Elt F) (outAt m c)) rfl]

/-- The waits at the end: for the copy of the result and for the other devices. -/
theorem finish_tail (K : Dev nD × CellIx → ℕ) (c : Dev nD) :
    iprop((part c cc0_stg1_0 Finset.univ (s1At m c) ∗ part c cc0_stg2_0 Finset.univ (s2At m c)
        ∗ cred (tallyAt (cell c iOut) () NO) ∗ atPos ER (cell c iOut) 0 ∅ 0
        ∗ cred (tallyAt (cell c iExit) () 15) ∗ atPos ER (cell c iExit) 0 ∅ 0) ∗ acct m K c 0)
      ⊢ wpc c (.op (.waitDma2 cc0_scratch7.sem accM oM hacc.wordExact ho.wordExact) fun _ => (semWaitWord cc0_scratch8.sem 15#32).bind fun _ => .ret PUnit.unit)
        fun _ => iprop((part c cc0_stg1_0 Finset.univ (s1At m c) ∗ part c cc0_stg2_0 Finset.univ (s2At m c)
          ∗ (vpt c oM (outAt m c) ∗ vpt c accM (outAt m c)) ∗ atPos ER (cell c iOut) (0 + 1) ∅ 0 ∗ atPos ER (cell c iExit) (0 + 1) ∅ 0) ∗ acct m K c 0) := by
  have h := wait_step m K c 0 iOut NO 3 (.waitDma2 cc0_scratch7.sem accM oM hacc.wordExact ho.wordExact)
    (fun Q => wpE_waitDma2_eq 𝒱₀ (c : Thread nD τ) none Set.univ Q) (card_one _ _ rfl amt_out) (Nat.zero_le 3) (above_zero 3)
  rw [show dut (some iOut) = {0} from rfl, bigSep_singleton,
    show pay m c (some iOut) 0 = iprop(vpt c oM (outAt m c) ∗ vpt c accM (outAt m c)) from rfl] at h
  refine (show _ ⊢ _ from ?_ : _ ⊢ _).trans (wp_then c h
    ((semWaitWord cc0_scratch8.sem 15#32).bind fun _ => .ret PUnit.unit) _)
  iintro ⟨⟨H1, H2, Hc, HaO, HcE, HaE⟩, HA⟩
  isplitl [Hc HaO HA]
  · isplitl [Hc HaO]
    · isplitl [Hc] <;> iassumption
    iexact HA
  iintro ⟨⟨Hp, HaO⟩, HA⟩
  iapply (wp_then c (exitWait_step m K c) (.ret PUnit.unit) _)
  isplitl [HcE HaE HA]
  · isplitl [HcE HaE]
    · isplitl [HcE] <;> iassumption
    iexact HA
  iintro ⟨⟨-, HaE⟩, HA⟩
  unfold wpc
  rw [wp_ret]; imodintro
  isplitr [HA]
  · isplitl [H1]; · iexact H1
    isplitl [H2]; · iexact H2
    isplitl [Hp]; · iexact Hp
    isplitl [HaO] <;> iassumption
  iexact HA

set_option maxHeartbeats 800000 in
/-- The result, scaled, clipped and copied out, and the wait for the other devices. -/
theorem finish_step (K : Dev nD × CellIx → ℕ) (c : Dev nD) :
    iprop((part c cc0_stg1_0 Finset.univ (s1At m c) ∗ part c cc0_stg2_0 Finset.univ (s2At m c) ∗ part c cc0_scratch0 Finset.univ (acc3 m c)
        ∗ (∃ f, vpt c oM f) ∗ dutyTok ER (cell c iOut) 0 0 ∗ atPos ER (cell c iOut) 0 ∅ 0
        ∗ cred (tallyAt (cell c iExit) () 15) ∗ atPos ER (cell c iExit) 0 ∅ 0) ∗ acct m K c 0)
      ⊢ wpc c finish fun _ => iprop((part c cc0_stg1_0 Finset.univ (s1At m c) ∗ part c cc0_stg2_0 Finset.univ (s2At m c)
          ∗ (vpt c oM (outAt m c) ∗ vpt c accM (outAt m c)) ∗ atPos ER (cell c iOut) (0 + 1) ∅ 0 ∗ atPos ER (cell c iExit) (0 + 1) ∅ 0) ∗ acct m K c 0) := by
  unfold finish smemLoad
  simp only [smemLoadElt, Prog.bind_op, Prog.bind_ret]
  iintro ⟨⟨H1, H2, Ha, ⟨%f, Ho⟩, Ht, HaO, HcE, HaE⟩, HA⟩
  iapply (wp_load 𝒱₀ (c : Thread nD τ) none Set.univ (m := s1M) (Finset.subset_univ _)) $$ H1; iintro H1
  iapply (wp_load 𝒱₀ (c : Thread nD τ) none Set.univ (m := s2M) (Finset.subset_univ _)) $$ H2; iintro H2
  iapply (wp_load 𝒱₀ (c : Thread nD τ) none Set.univ (m := accM) (Finset.subset_univ _)) $$ Ha; iintro Ha
  rw [show accM.view.readAt (Elt F) aR.toLoadRect (acc3 m c) = acc3 m c from Memref.readAt_unit_zero (Elt F) cc0_scratch0 hz _ _]
  iapply (wp_load 𝒱₀ (c : Thread nD τ) none Set.univ (m := accM) (Finset.subset_univ _)) $$ Ha; iintro Ha
  iapply (wp_store 𝒱₀ (c : Thread nD τ) none Set.univ (m := accM) (r := aR) (Mk := Finset.univ) (Finset.subset_univ _)) $$ Ha; iintro Ha
  rw [show View.readAt (Elt F) s1M.view oneR.toLoadRect (s1At m c) (Shape.Idx.first _) = s1At m c (ix1 (n := 1) 0) from read_s1 m c _,
    show View.readAt (Elt F) s2M.view oneR.toLoadRect (s2At m c) (Shape.Idx.first _) = s2At m c (ix1 (n := 1) 0) from read_s2 m c _,
    show (accM.access aR).write (Elt F) (acc3 m c) (k0_pay1 (k0_pay9 (s1At m c (ix1 (n := 1) 0)) (s2At m c (ix1 (n := 1) 0)) (acc3 m c))) Finset.univ = outAt m c
      from Memref.write_access_unit_zero_univ (Elt F) cc0_scratch0 hz _ _ _]
  ihave Ha' := (Entails.of_eq (acc_whole c (outAt m c))) $$ Ha
  unfold vpt acct
  icases HA with ⟨⟨#HR, #HL⟩, HO⟩
  iapply (Rounds.wp_copy_pointsTo 𝒱₀ ER (sch m) (c : Thread nD τ) none (κ := K (c, iOut)) (r := 0) (d := 0) (sem := .dma cc0_scratch7.sem)
      (src := accM) (dst := oM) (fs := outAt m c) (fd := f)
      (by rw [cell_out, duties_cell]; exact Finset.mem_singleton_self _)
      () NO rfl ((amount_cell m c iOut 0 0).trans amt_out) (out_pays m c f)) $$ [Ho Ha' Ht]
  · isplitr; · iapply (inv_at m K c iOut); iexact HR
    isplitl [Ha']; · iexact Ha'
    isplitl [Ho]; · iexact Ho
    isplitl [Ht]; · iexact Ht
    iapply (reached_at m K c iOut); iexact HR
  iintro Hc
  iapply (finish_tail m K c)
  unfold acct
  isplitl [H1 H2 Hc HaO HcE HaE]
  · isplitl [H1]; · iexact H1
    isplitl [H2]; · iexact H2
    isplitl [Hc]; · iexact Hc
    isplitl [HaO]; · iexact HaO
    isplitl [HcE]; · iexact HcE
    iexact HaE
  isplitr
  · isplitr <;> iassumption
  iexact HO

end Cert.KernelIdeal.Ring
end
-- ==== Proof.Groups.lean ====
/- The loops of the body, whole: each takes the buffers, tokens, credits and positions it needs and gives back what it leaves. -/
module

public import proofs.«01_k».proof.Proof.Compute

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Cert.KernelIdeal.Gen

variable {F : FTy → Type} [FloatOps F]
local notation "𝕄" => MT nD τ sig Unit (Elt F) ℕ UU ℕ

variable (m : (ℓ : Loc nD τ sig) → Buf (Elt F) ℓ) (ρ : Dev nD → PrngReg)

/-- The weights of device `c` at launch. -/
abbrev wAt (c : Dev nD) : (main_arg1 : Ref sig .tc).ty.Contents (Elt F) := m ((c : Thread nD τ).loc main_arg1)

/-! ## Starting the weight copies -/

/-- The sixteen weight copies start: the tiles and the rows read go into them. -/
theorem wStarts (K : Dev nD × CellIx → ℕ) (c : Dev nD) (O : CellTallies nD τ sig Unit) :
    iprop(((∃ f, part c cc0_scratch3 Finset.univ f) ∗ part c main_arg1 Finset.univ (wAt m c) ∗ listSep L16 fun p => dutyTok ER (cell c (iW p)) 0 0) ∗ acct m K c O)
      ⊢ wpc c (each L16 (wStart c)) fun _ => iprop((listSep L16 fun p => cred (tallyAt (cell c (iW p)) () NW)) ∗ acct m K c O) := by
  have h := wp_each c (wStart c) _ _ (fun _ => acct m K c O) (fun p l => wStart_step m K c O p l) L16
  beta_reduce at h
  refine (show _ ⊢ _ from ?_ : _ ⊢ _).trans h
  rw [listSep_sep, listSep_sep, w_rows]
  iintro ⟨⟨⟨%f, Ht⟩, Hw, HT⟩, HA⟩
  isplitr [HA]
  · isplitl [Ht]
    · ihave Ht' := (Entails.of_eq (wt_tiles c f)) $$ Ht
      iapply (listSep_mono L16 (Φ := fun p => vpt c (tileV p) f) fun p => (show _ ⊢ iprop(∃ f, vpt c (tileV p) f) by iintro H; iexists f; iexact H)) $$ Ht'
    isplitl [Hw] <;> iassumption
  iexact HA

/-! ## The barrier -/

/-- The fifteen barrier signals: each hands over a slot and pays a debt. -/
theorem barSignals (K : Dev nD × CellIx → ℕ) (c : Dev nD) (O : CellTallies nD τ sig Unit) :
    iprop((∃ f : (cc0_scratch2 : Ref sig .tc).ty.Contents (Elt F), listSep L15 fun d => vpt c (slotV d) f) ∗ (listSep L15 fun d => dutyTok ER (cell (pr c d) iBar) 0 d.rev) ∗ acct m K c (O + barO c L15))
      ⊢ wpc c (each L15 (barSignal c)) fun _ => iprop((listSep L15 fun _ => iprop(emp)) ∗ acct m K c O) := by
  have h := wp_each c (barSignal c) _ _ (fun l => acct m K c (O + barO c l)) (fun d l => barSignal_step m K c O d l) L15
  beta_reduce at h
  rw [show O + barO c [] = O from add_zero O] at h
  refine (show _ ⊢ _ from ?_ : _ ⊢ _).trans h
  rw [listSep_sep]
  iintro ⟨⟨%f, Hs⟩, HT, HA⟩
  isplitr [HA]
  · isplitl [Hs]
    · have e : (listSep L15 fun d => vpt c (slotV d) f : sProp 𝕄) = listSep L15 fun d : Fin 15 => vpt c (slotV d.rev) f := by
        rw [listSep15, listSep15, bigSep_univ_equiv Fin.revPerm]; rfl
      ihave Hs' := (Entails.of_eq e) $$ Hs
      iapply (listSep_mono L15 (Φ := fun d : Fin 15 => vpt c (slotV d.rev) f) fun d => (show _ ⊢ iprop(∃ f, vpt c (slotV d.rev) f) by iintro H; iexists f; iexact H)) $$ Hs'
    iexact HT
  iexact HA

/-! ## The sends -/

/-- The fifteen sends: the rows and the peers' slots go into them, and the debts are paid. -/
theorem sends (K : Dev nD × CellIx → ℕ) (c : Dev nD) (O : CellTallies nD τ sig Unit) :
    iprop(((listSep L15 fun d => vpt c (sendRows c d) (x8At m c)) ∗ (listSep L15 fun d => iprop(∃ f, vpt (pr c d) (slotV d) f))
        ∗ (listSep L15 fun d => dutyTok ER (cell c (iSend d)) 0 0) ∗ listSep L15 fun d => dutyTok ER (cell (pr c d) (iRecv d)) 0 0) ∗ acct m K c (O + sendO c L15))
      ⊢ wpc c (each L15 (send c)) fun _ => iprop((listSep L15 fun d => cred (tallyAt (cell c (iSend d)) () NX)) ∗ acct m K c O) := by
  have h := wp_each c (send c) _ _ (fun l => acct m K c (O + sendO c l)) (fun d l => send_step m K c O d l) L15
  beta_reduce at h
  rw [show O + sendO c [] = O from add_zero O, listSep_sep, listSep_sep, listSep_sep] at h
  exact h

/-! ## The waits of a group -/

/-- What the waits of group `g` take. -/
def groupIn (c : Dev nD) (g : Fin 4) : sProp 𝕄 :=
  iprop(((listSep (LW g) fun p => cred (tallyAt (cell c (iW p)) () NW)) ∗ listSep (LW g) fun p => atPos ER (cell c (iW p)) 0 ∅ 0)
    ∗ ((listSep (LR g) fun d => cred (tallyAt (cell c (iRecv d)) () NX)) ∗ listSep (LR g) fun d => atPos ER (cell c (iRecv d)) 0 ∅ 0))
/-- What they leave beside the tiles and the slots. -/
def groupOut (c : Dev nD) (g : Fin 4) : sProp 𝕄 :=
  iprop(((listSep (LW g) fun p => vpt c (wRows c p) (wAt m c)) ∗ listSep (LW g) fun p => atPos ER (cell c (iW p)) (0 + 1) ∅ 0)
    ∗ listSep (LR g) fun d => atPos ER (cell c (iRecv d)) (0 + 1) ∅ 0)

/-- The waits of group `g` give its slots and its weights, filled. -/
theorem waits_group (K : Dev nD × CellIx → ℕ) (c : Dev nD) (O : CellTallies nD τ sig Unit) (hO : Above 2 O) (g : Fin 4) :
    iprop(groupIn c g ∗ acct m K c O) ⊢ wpc c (waits c g) fun _ => iprop(((listSep (LR g) fun d => vpt c (slotV d) (xfAt m c))
      ∗ part c cc0_scratch3 (wgR g).set (wtAt m c) ∗ groupOut m c g) ∗ acct m K c O) := by
  have hw := wp_each c (wWait c) _ _ (fun _ => acct m K c O) (fun p l => wWait_step m K c O 2 hO p l) (LW g)
  have hr := wp_each c recvWait _ _ (fun _ => acct m K c O) (fun d l => recvWait_step m K c O 2 (le_refl 2) hO d l) (LR g)
  rw [listSep_sep, listSep_sep, listSep_sep] at hw
  rw [listSep_sep, listSep_sep] at hr
  rw [wg_tiles]
  unfold waits groupIn groupOut
  iintro ⟨⟨HW, HR⟩, HA⟩
  iapply (wp_then c hw _ _)
  isplitl [HW HA]
  · isplitl [HW] <;> iassumption
  iintro ⟨⟨⟨Ht, Hw⟩, HaW⟩, HA⟩
  iapply (wp_wand (frame) (wpE (defs₀ (F := F)) 𝒱₀ (c : Thread nD τ) none) Set.univ) $$ [HR HA]
  · iapply hr
    isplitl [HR] <;> iassumption
  iintro %u ⟨⟨Hs, HaR⟩, HA⟩
  isplitr [HA]
  · isplitl [Hs]; · iexact Hs
    isplitl [Ht]; · iexact Ht
    isplitl [Hw HaW]
    · isplitl [Hw] <;> iassumption
    iexact HaR
  iexact HA

/-- The columns and the weights of group `g`. -/
def grp (c : Dev nD) (g : Fin 4) : sProp 𝕄 := iprop(part c cc0_scratch2 (xgR g).set (xfAt m c) ∗ part c cc0_scratch3 (wgR g).set (wtAt m c))

/-- The first group: its waits and its product. -/
theorem group_first (K : Dev nD × CellIx → ℕ) (c : Dev nD) (O : CellTallies nD τ sig Unit) (hO : Above 2 O) {α : Type} (k : Pg F α) (Q : α → sProp 𝕄) :
    iprop((groupIn c 0 ∗ part c cc0_scratch2 slot0R.set (xfAt m c) ∗ (∃ f, part c cc0_scratch0 Finset.univ f) ∗ acct m K c O)
        ∗ ((grp m c 0 ∗ groupOut m c 0 ∗ part c cc0_scratch0 Finset.univ (acc0 m c) ∗ acct m K c O) -∗ wpc c k Q))
      ⊢ wpc c ((waits c 0).bind fun _ => (first 0).bind fun _ => k) Q := by
  iintro ⟨⟨HG, H0, Ha, HA⟩, Hk⟩
  iapply (wp_then c (waits_group m K c O hO 0) _ _)
  isplitl [HG HA]
  · isplitl [HG] <;> iassumption
  iintro ⟨⟨Hs, Ht, HO⟩, HA⟩
  iapply (wp_then c (first_step m c) _ _)
  isplitl [H0 Hs Ht Ha]
  · isplitl [H0 Hs]
    · iapply (Entails.of_eq (xg_slots0 c (xfAt m c)).symm)
      isplitl [H0] <;> iassumption
    isplitl [Ht] <;> iassumption
  iintro ⟨Hx, Hw, Ha⟩
  iapply Hk
  unfold grp
  isplitl [Hx Hw]
  · isplitl [Hx] <;> iassumption
  isplitl [HO]; · iexact HO
  isplitl [Ha] <;> iassumption

/-- A later group. -/
theorem group_next (K : Dev nD × CellIx → ℕ) (c : Dev nD) (O : CellTallies nD τ sig Unit) (hO : Above 2 O) (g : Fin 4) (hg : g ≠ 0)
    (pay : Vec F S256x1024 .fp8e5m2 → Vec F S1x1024x2048 .f32 → Vec F S256x2048 .f32 → FVec F S256x2048 .f32) (a a' : Vec F S256x2048 .f32)
    (ha : pay (xg m c g) (wg m c g) a = a') {α : Type} (k : Pg F α) (Q : α → sProp 𝕄) :
    iprop((groupIn c g ∗ part c cc0_scratch0 Finset.univ a ∗ acct m K c O)
        ∗ ((grp m c g ∗ groupOut m c g ∗ part c cc0_scratch0 Finset.univ a' ∗ acct m K c O) -∗ wpc c k Q))
      ⊢ wpc c ((waits c g).bind fun _ => (next g pay).bind fun _ => k) Q := by
  subst ha
  iintro ⟨⟨HG, Ha, HA⟩, Hk⟩
  iapply (wp_then c (waits_group m K c O hO g) _ _)
  isplitl [HG HA]
  · isplitl [HG] <;> iassumption
  iintro ⟨⟨Hs, Ht, HO⟩, HA⟩
  iapply (wp_then c (next_step m c g pay a) _ _)
  isplitl [Hs Ht Ha]
  · isplitl [Hs]
    · iapply (Entails.of_eq (xg_slots c g hg (xfAt m c)).symm); iexact Hs
    isplitl [Ht] <;> iassumption
  iintro ⟨Hx, Hw, Ha⟩
  iapply Hk
  unfold grp
  isplitl [Hx Hw]
  · isplitl [Hx] <;> iassumption
  isplitl [HO]; · iexact HO
  isplitl [Ha] <;> iassumption

/-! ## The end -/

/-- The fifteen exit signals pay the last debts. -/
theorem exitSignals (K : Dev nD × CellIx → ℕ) (c : Dev nD) :
    iprop((listSep L15 fun d => dutyTok ER (cell (pr c d) iExit) 0 d) ∗ acct m K c (exitO c L15))
      ⊢ wpc c (each L15 (exitSignal c)) fun _ => iprop((listSep L15 fun _ => iprop(emp)) ∗ acct m K c 0) :=
  wp_each c (exitSignal c) _ _ (fun l => acct m K c (exitO c l)) (fun d l => exitSignal_step m K c d l) L15

/-- The fifteen waits for the sends give all rows back. -/
theorem sendWaits (K : Dev nD × CellIx → ℕ) (c : Dev nD) :
    iprop(((listSep L15 fun d => cred (tallyAt (cell c (iSend d)) () NX)) ∗ listSep L15 fun d => atPos ER (cell c (iSend d)) 0 ∅ 0) ∗ acct m K c 0)
      ⊢ wpc c (each L15 (sendWait c)) fun _ => iprop(((listSep L15 fun d => vpt c (sendRows c d) (x8At m c))
          ∗ listSep L15 fun d => atPos ER (cell c (iSend d)) (0 + 1) ∅ 0) ∗ acct m K c 0) := by
  have h := wp_each c (sendWait c) _ _ (fun _ => acct m K c 0) (fun d l => sendWait_step m K c 0 0 (above_zero 0) d l) L15
  rw [listSep_sep, listSep_sep] at h
  exact h

/-! ## Cells by kind, groups together -/

/-- The cells of a device by kind. -/
theorem cells_split (Φ : CellIx → sProp 𝕄) : bigSep Finset.univ Φ
    = iprop((((listSep L15 fun d => Φ (iSend d)) ∗ listSep L15 fun d => Φ (iRecv d)) ∗ ((listSep L16 fun p => Φ (iW p))
        ∗ (Φ iExit ∗ Φ iOut ∗ Φ (.inl (.inr (.inr 2))) ∗ Φ (.inl (.inr (.inr 3)))))) ∗ Φ iBar) := by
  rw [BI.bigSep_univ_sum, BI.bigSep_univ_sum, BI.bigSep_univ_sum, BI.bigSep_univ_sum, listSep15, listSep15, listSep16]
  rw [show (Finset.univ : Finset Unit) = {()} from rfl, bigSep_singleton]
  rw [show (Finset.univ : Finset (Fin 4)) = {0, 1, 2, 3} from rfl, bigSep_insert (by decide), bigSep_insert (by decide), bigSep_insert (by decide), bigSep_singleton]
  rfl

/-- A conjunction over the four groups, written out. -/
theorem four (Φ : Fin 4 → sProp 𝕄) : bigSep Finset.univ Φ = iprop(Φ 0 ∗ Φ 1 ∗ Φ 2 ∗ Φ 3) := by
  rw [show (Finset.univ : Finset (Fin 4)) = {0, 1, 2, 3} from rfl, bigSep_insert (by decide), bigSep_insert (by decide), bigSep_insert (by decide), bigSep_singleton]
  rfl
/-- The tiles are those of the four groups. -/
theorem LW_groups (Φ : Fin 16 → sProp 𝕄) : listSep L16 Φ = iprop(listSep (LW 0) Φ ∗ listSep (LW 1) Φ ∗ listSep (LW 2) Φ ∗ listSep (LW 3) Φ) := by
  rw [← listSep_append, ← listSep_append, ← listSep_append]; rfl
/-- The distances are those of the four groups. -/
theorem LR_groups (Φ : Fin 15 → sProp 𝕄) : listSep L15 Φ = iprop(listSep (LR 0) Φ ∗ listSep (LR 1) Φ ∗ listSep (LR 2) Φ ∗ listSep (LR 3) Φ) := by
  rw [← listSep_append, ← listSep_append, ← listSep_append]; rfl

/-- What the waits of the four groups take. -/
theorem groups_in (c : Dev nD) :
    iprop(((listSep L16 fun p => cred (tallyAt (cell c (iW p)) () NW)) ∗ listSep L16 fun p => atPos ER (cell c (iW p)) 0 ∅ 0)
      ∗ ((listSep L15 fun d => cred (tallyAt (cell c (iRecv d)) () NX)) ∗ listSep L15 fun d => atPos ER (cell c (iRecv d)) 0 ∅ 0))
      ⊢ (iprop(groupIn c 0 ∗ groupIn c 1 ∗ groupIn c 2 ∗ groupIn c 3) : sProp 𝕄) := by
  rw [LW_groups, LW_groups, LR_groups, LR_groups]
  unfold groupIn
  iintro ⟨⟨⟨A0, A1, A2, A3⟩, ⟨B0, B1, B2, B3⟩⟩, ⟨⟨C0, C1, C2, C3⟩, ⟨D0, D1, D2, D3⟩⟩⟩
  isplitl [A0 B0 C0 D0]
  · isplitl [A0 B0]; · isplitl [A0] <;> iassumption
    isplitl [C0] <;> iassumption
  isplitl [A1 B1 C1 D1]
  · isplitl [A1 B1]; · isplitl [A1] <;> iassumption
    isplitl [C1] <;> iassumption
  isplitl [A2 B2 C2 D2]
  · isplitl [A2 B2]; · isplitl [A2] <;> iassumption
    isplitl [C2] <;> iassumption
  isplitl [A3 B3]; · isplitl [A3] <;> iassumption
  isplitl [C3] <;> iassumption
/-- What they leave. -/
theorem groups_out (c : Dev nD) :
    iprop((grp m c 0 ∗ grp m c 1 ∗ grp m c 2 ∗ grp m c 3) ∗ (groupOut m c 0 ∗ groupOut m c 1 ∗ groupOut m c 2 ∗ groupOut m c 3))
      ⊢ iprop((part c cc0_scratch2 Finset.univ (xfAt m c) ∗ part c cc0_scratch3 Finset.univ (wtAt m c) ∗ part c main_arg1 Finset.univ (wAt m c))
          ∗ (listSep L16 fun p => atPos ER (cell c (iW p)) (0 + 1) ∅ 0) ∗ (listSep L15 fun d => atPos ER (cell c (iRecv d)) (0 + 1) ∅ 0)) := by
  rw [xf_groups, wt_groups, w_rows, four, four, LW_groups, LW_groups, LR_groups]
  unfold grp groupOut
  iintro ⟨⟨⟨X0, W0⟩, ⟨X1, W1⟩, ⟨X2, W2⟩, ⟨X3, W3⟩⟩, ⟨⟨⟨A0, B0⟩, C0⟩, ⟨⟨A1, B1⟩, C1⟩, ⟨⟨A2, B2⟩, C2⟩, ⟨⟨A3, B3⟩, C3⟩⟩⟩
  isplitr [B0 B1 B2 B3 C0 C1 C2 C3]
  · isplitl [X0 X1 X2 X3]
    · isplitl [X0]; · iexact X0
      isplitl [X1]; · iexact X1
      isplitl [X2] <;> iassumption
    isplitl [W0 W1 W2 W3]
    · isplitl [W0]; · iexact W0
      isplitl [W1]; · iexact W1
      isplitl [W2] <;> iassumption
    isplitl [A0]; · iexact A0
    isplitl [A1]; · iexact A1
    isplitl [A2] <;> iassumption
  isplitl [B0 B1 B2 B3]
  · isplitl [B0]; · iexact B0
    isplitl [B1]; · iexact B1
    isplitl [B2] <;> iassumption
  isplitl [C0]; · iexact C0
  isplitl [C1]; · iexact C1
  isplitl [C2] <;> iassumption

/-! ## Closing the cells -/

/-- Device `c` is past every round of its cell `k`. -/
def past (c : Dev nD) (k : CellIx) : sProp 𝕄 := iprop(∃ R, ⌜∀ r, R ≤ r → (sch m).duties (cell c k) r = ∅⌝ ∗ atPos ER (cell c k) R ∅ 0)

/-- A cell after its round is done with. -/
theorem past_one (c : Dev nD) (k : CellIx) : atPos ER (cell c k) (0 + 1) ∅ 0 ⊢ past m c k := by
  unfold past
  iintro H
  iexists (0 + 1)
  isplitr; · ipureintro; exact duties_later m (cell c k)
  iexact H
/-- A cell that is never raised is done with. -/
theorem past_unused (c : Dev nD) (k : CellIx) (hk : dut (some k) = ∅) : atPos ER (cell c k) 0 ∅ 0 ⊢ past m c k := by
  unfold past
  iintro H
  iexists 0
  isplitr
  · ipureintro; intro r _
    rcases Nat.eq_zero_or_pos r with h | h
    · rw [h, duties_cell, hk]
    · exact duties_later m (cell c k) r h
  iexact H
/-- Past cells close, and their counters stand at zero. -/
theorem close_all (K : Dev nD × CellIx → ℕ) (c : Dev nD) :
    iprop(records m K ∗ bigSep Finset.univ (past m c)) ⊢ iprop(|={Set.univ}=> bigSep Finset.univ fun k => semVal (cell c k) 0) := by
  refine (show _ ⊢ _ from ?_ : _ ⊢ _).trans (bigSep_fupd Finset.univ _)
  refine bigSep_with_persistent fun k _ => ?_
  unfold past
  iintro ⟨#HR, ⟨%R, %hR, Ha⟩⟩
  iapply (Rounds.cell_close ER (sch m) (Set.mem_univ (K (c, k))) (fun h => h) (R := R) hR)
  isplitr; · iapply (inv_at m K c k); iexact HR
  iexact Ha

end Cert.KernelIdeal.Ring
end
-- ==== Proof.Body.lean ====
/- The body of the kernel on one device, from what it starts with to what it ends with. -/
module

public import proofs.«01_k».proof.Proof.Groups

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Cert.KernelIdeal.Gen

variable {F : FTy → Type} [FloatOps F]
local notation "𝕄" => MT nD τ sig Unit (Elt F) ℕ UU ℕ

variable (m : (ℓ : Loc nD τ sig) → Buf (Elt F) ℓ) (ρ : Dev nD → PrngReg)

/-- The tokens device `c` raises cells with: its own copies' and sends', and one of each other device's barrier, receive and exit cell. -/
def toks (c : Dev nD) : sProp 𝕄 :=
  iprop(((listSep L15 fun d => dutyTok ER (cell (pr c d) iBar) 0 d.rev) ∗ (listSep L15 fun d => dutyTok ER (cell (pr c d) iExit) 0 d))
    ∗ ((listSep L15 fun d => dutyTok ER (cell c (iSend d)) 0 0) ∗ (listSep L15 fun d => dutyTok ER (cell (pr c d) (iRecv d)) 0 0))
    ∗ ((listSep L16 fun p => dutyTok ER (cell c (iW p)) 0 0) ∗ dutyTok ER (cell c iOut) 0 0))

/-- The credits it waits with for what the others raise. -/
def creds (c : Dev nD) : sProp 𝕄 :=
  iprop(cred (tallyAt (cell c iBar) () 15) ∗ (listSep L15 fun d => cred (tallyAt (cell c (iRecv d)) () NX)) ∗ cred (tallyAt (cell c iExit) () 15))

/-- The staged arguments. -/
def staged (c : Dev nD) : sProp 𝕄 :=
  iprop(part c cc0_stg0_0 Finset.univ (xAt m c) ∗ part c cc0_stg1_0 Finset.univ (s1At m c) ∗ part c cc0_stg2_0 Finset.univ (s2At m c))
/-- The buffers of the kernel's own. -/
def scratch (c : Dev nD) : sProp 𝕄 :=
  iprop((∃ f, part c cc0_scratch0 Finset.univ f) ∗ (∃ f, part c cc0_scratch1 Finset.univ f) ∗ (∃ f, part c cc0_scratch2 Finset.univ f) ∗ (∃ f, part c cc0_scratch3 Finset.univ f))

/-- What the body takes. -/
def bodyIn (K : Dev nD × CellIx → ℕ) (c : Dev nD) : sProp 𝕄 :=
  iprop(acct m K c (O₀ c) ∗ toks c ∗ (bigSep Finset.univ fun k => atPos ER (cell c k) 0 ∅ 0) ∗ creds c ∗ scratch c
    ∗ part c main_arg1 Finset.univ (wAt m c) ∗ (∃ f, part c main_v1 Finset.univ f) ∗ staged m c)
/-- What it leaves: the result in place, the weights as they were, its cells closed at zero, nothing owed. -/
def bodyOut (c : Dev nD) : sProp 𝕄 :=
  iprop((∃ W, owes (c : Thread nD τ) 0 W) ∗ (bigSep Finset.univ fun k => semVal (cell c k) 0) ∗ scratch c
    ∗ part c main_arg1 Finset.univ (wAt m c) ∗ part c main_v1 Finset.univ (outAt m c) ∗ staged m c)

set_option maxHeartbeats 1600000 in
/-- The body, as loops, runs on one device from what it starts with to what it ends with, and does not fault. -/
theorem body_sound (K : Dev nD × CellIx → ℕ) (c : Dev nD) : bodyIn m K c ⊢ wpc c (loops c) fun _ => bodyOut m c := by
  unfold bodyIn toks creds scratch staged loops
  rw [cells_split]
  iintro ⟨HA, ⟨⟨TB, TE⟩, ⟨TS, TR⟩, ⟨TW, TO⟩⟩, ⟨⟨⟨PS, PR⟩, ⟨PW, ⟨PE, PO, P2, P3⟩⟩⟩, PB⟩, ⟨CB, CR, CE⟩, ⟨Hacc, H8, ⟨%f2, Hxf⟩, Hwt⟩, Hw, ⟨%fo, Ho⟩, ⟨Hx, Hs1, Hs2⟩⟩
  -- the weight copies start
  iapply (wp_then c (wStarts m K c (O₀ c)) _ _)
  isplitl [Hwt Hw TW HA]
  · isplitr [HA]
    · isplitl [Hwt]; · iexact Hwt
      isplitl [Hw] <;> iassumption
    iexact HA
  iintro ⟨CW, HA⟩
  -- the barrier signals hand out the slots
  ihave Hxf' := (Entails.of_eq (xf_slots c f2)) $$ Hxf
  icases Hxf' with ⟨H0, Hsl⟩
  iapply (wp_then c (barSignals m K c (exitO c L15 + sendO c L15)) _ _)
  isplitl [Hsl TB HA]
  · isplitl [Hsl]; · iexists f2; iexact Hsl
    isplitl [TB]; · iexact TB
    iexact HA
  iintro ⟨-, HA⟩
  -- the rounding
  iapply (wp_then c (round_step m c) _ _)
  isplitl [Hx H8 H0]
  · isplitl [Hx]; · iexact Hx
    isplitl [H8]; · iexact H8
    iexists f2; iexact H0
  iintro ⟨Hx, H8, H0⟩
  -- the barrier wait brings the other devices' slots
  iapply (wp_then c (barWait_step m K c (exitO c L15 + sendO c L15) (above_add (above_exit (by decide) c _) (above_send (by decide) c _))) _ _)
  isplitl [CB PB HA]
  · isplitl [CB PB]
    · isplitl [CB] <;> iassumption
    iexact HA
  iintro ⟨⟨Hsl, PB⟩, HA⟩
  -- the sends
  ihave H8' := (Entails.of_eq (x8_rows c (x8At m c))) $$ H8
  icases H8' with ⟨Hown, Hrows⟩
  iapply (wp_then c (sends m K c (exitO c L15)) _ _)
  isplitl [Hrows Hsl TS TR HA]
  · isplitr [HA]
    · isplitl [Hrows]; · iexact Hrows
      isplitl [Hsl]; · iexact Hsl
      isplitl [TS] <;> iassumption
    iexact HA
  iintro ⟨CS, HA⟩
  -- the four groups
  ihave HG := (groups_in (F := F) c) $$ [CW PW CR PR]
  · isplitl [CW PW]
    · isplitl [CW] <;> iassumption
    isplitl [CR] <;> iassumption
  icases HG with ⟨G0, G1, G2, G3⟩
  iapply (group_first m K c (exitO c L15) (above_exit (by decide) c _) _ _)
  isplitl [G0 H0 Hacc HA]
  · isplitl [G0]; · iexact G0
    isplitl [H0]; · iexact H0
    isplitl [Hacc] <;> iassumption
  iintro ⟨X0, Q0, Hacc, HA⟩
  iapply (group_next m K c (exitO c L15) (above_exit (by decide) c _) 1 (by decide) (fun x w a => k0_pay6 (k0_pay5 x w a)) (acc0 m c) (acc1 m c) rfl _ _)
  isplitl [G1 Hacc HA]
  · isplitl [G1]; · iexact G1
    isplitl [Hacc] <;> iassumption
  iintro ⟨X1, Q1, Hacc, HA⟩
  iapply (group_next m K c (exitO c L15) (above_exit (by decide) c _) 2 (by decide) k0_pay7 (acc1 m c) (acc2 m c) rfl _ _)
  isplitl [G2 Hacc HA]
  · isplitl [G2]; · iexact G2
    isplitl [Hacc] <;> iassumption
  iintro ⟨X2, Q2, Hacc, HA⟩
  iapply (group_next m K c (exitO c L15) (above_exit (by decide) c _) 3 (by decide) k0_pay8 (acc2 m c) (acc3 m c) rfl _ _)
  isplitl [G3 Hacc HA]
  · isplitl [G3]; · iexact G3
    isplitl [Hacc] <;> iassumption
  iintro ⟨X3, Q3, Hacc, HA⟩
  -- the exit signals, the sends' waits, the result
  iapply (wp_then c (exitSignals m K c) _ _)
  isplitl [TE HA]
  · isplitl [TE] <;> iassumption
  iintro ⟨-, HA⟩
  iapply (wp_then c (sendWaits m K c) _ _)
  isplitl [CS PS HA]
  · isplitl [CS PS]
    · isplitl [CS] <;> iassumption
    iexact HA
  iintro ⟨⟨Hrows, PS⟩, HA⟩
  iapply (wp_fupd frame (wpE (defs₀ (F := F)) 𝒱₀ (c : Thread nD τ) none) Set.univ)
  iapply (wp_wand (frame) (wpE (defs₀ (F := F)) 𝒱₀ (c : Thread nD τ) none) Set.univ) $$ [Hs1 Hs2 Hacc Ho TO PO CE PE HA]
  · iapply (finish_step m K c)
    isplitr [HA]
    · isplitl [Hs1]; · iexact Hs1
      isplitl [Hs2]; · iexact Hs2
      isplitl [Hacc]; · iexact Hacc
      isplitl [Ho]; · iexists fo; iapply (Entails.of_eq (o_whole c fo)); iexact Ho
      isplitl [TO]; · iexact TO
      isplitl [PO]; · iexact PO
      isplitl [CE] <;> iassumption
    iexact HA
  iintro %u ⟨⟨Hs1, Hs2, ⟨Ho, Hacc⟩, PO, PE⟩, HA⟩
  ihave HF := (groups_out m c) $$ [X0 X1 X2 X3 Q0 Q1 Q2 Q3]
  · isplitl [X0 X1 X2 X3]
    · isplitl [X0]; · iexact X0
      isplitl [X1]; · iexact X1
      isplitl [X2] <;> iassumption
    isplitl [Q0]; · iexact Q0
    isplitl [Q1]; · iexact Q1
    isplitl [Q2] <;> iassumption
  icases HF with ⟨⟨Hxf, Hwt, Hw⟩, PW, PR⟩
  unfold acct
  icases HA with ⟨⟨#HR, #HL⟩, HO⟩
  -- the cells close
  imod (close_all m K c) $$ [PS PR PW PE PO P2 P3 PB] with HZ
  · isplitr; · iexact HR
    rw [cells_split]
    isplitr [PB]
    · isplitl [PS PR]
      · isplitl [PS]; · iapply (listSep_mono L15 fun d => past_one m c (iSend d)); iexact PS
        iapply (listSep_mono L15 fun d => past_one m c (iRecv d)); iexact PR
      isplitl [PW]; · iapply (listSep_mono L16 fun p => past_one m c (iW p)); iexact PW
      isplitl [PE]; · iapply (past_one m c iExit); iexact PE
      isplitl [PO]; · iapply (past_one m c iOut); iexact PO
      isplitl [P2]; · iapply (past_unused m c _ rfl); iexact P2
      iapply (past_unused m c _ rfl); iexact P3
    iapply (past_one m c iBar); iexact PB
  imodintro
  unfold bodyOut scratch staged
  isplitl [HO]; · iexact HO
  isplitl [HZ]; · iexact HZ
  isplitl [Hacc Hown Hrows Hxf Hwt]
  · isplitl [Hacc]; · iexists outAt m c; iapply (Entails.of_eq (acc_whole c (outAt m c)).symm); iexact Hacc
    isplitl [Hown Hrows]
    · iexists x8At m c
      iapply (Entails.of_eq (x8_rows c (x8At m c)).symm)
      isplitl [Hown] <;> iassumption
    isplitl [Hxf]; · iexists xfAt m c; iexact Hxf
    iexists wtAt m c; iexact Hwt
  isplitl [Hw]; · iexact Hw
  isplitl [Ho]; · iapply (Entails.of_eq (o_whole c (outAt m c)).symm); iexact Ho
  isplitl [Hx]; · iexact Hx
  isplitl [Hs1] <;> iassumption

end Cert.KernelIdeal.Ring
end
-- ==== Proof.Launch.lean ====
/- The one point of the grid: what the launch stages, what the body starts from and leaves, and that the body does so. -/
module

public import proofs.«01_k».proof.Proof.Body
public import proofs.«01_k».proof.Proof.Gen.KernelIdeal.Launch

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.KernelIdeal.Gen

variable {F : FTy → Type} [FloatOps F]
local notation "𝕄" => MT nD τ sig Unit (Elt F) ℕ UU ℕ

variable (m : (ℓ : Loc nD τ sig) → Buf (Elt F) ℓ) (ρ : Dev nD → PrngReg)

/-- What the launch gives device `c` besides the buffers: the cells' records, the levels, its tokens, its positions, its credits. -/
def start (c : Dev nD) : sProp 𝕄 :=
  iprop(∃ K, (records m K ∗ levAts L lv) ∗ toks c ∗ (bigSep Finset.univ fun k => atPos ER (cell c k) 0 ∅ 0) ∗ creds c)
/-- Before the point. -/
def Φ₀ (c : Dev nD) : sProp 𝕄 :=
  iprop(start m c ∗ scratch c ∗ part c main_arg1 Finset.univ (wAt m c) ∗ (∃ f, part c main_v1 Finset.univ f))
/-- After it. -/
def Φ₁ (c : Dev nD) : sProp 𝕄 :=
  iprop((bigSep Finset.univ fun k => semVal (cell c k) 0) ∗ scratch c
    ∗ part c main_arg1 Finset.univ (wAt m c) ∗ part c main_v1 Finset.univ (outAt m c))

/-- The staged arrays and what holds around the point. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xAt m c
    | ⟨1, _⟩ => s1At m c
    | ⟨2, _⟩ => s2At m c
  Φ t := match t with
    | ⟨0, _⟩ => Φ₀ m c
    | ⟨_ + 1, _⟩ => Φ₁ m c
  q _ := fullShare
  owed t := match t with
    | ⟨0, _⟩ => O₀ c
    | ⟨_ + 1, _⟩ => 0

omit [FloatOps F] in
/-- To own a whole buffer is to hold all its elements. -/
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) ((c : Thread nD τ).loc b), ⌜f = X⌝ ∗ part c b Finset.univ f) := by
  unfold owns; simp only [Memref.view_whole, View.read_whole, View.set_whole]

/-- A whole staging buffer at `X`. -/
abbrev stg (c : Dev nD) (b : Ref sig .tc) (X : b.ty.Contents (Elt F)) : sProp 𝕄 :=
  iprop(∃ f : Buf (Elt F) ((c : Thread nD τ).loc b), ⌜f = X⌝ ∗ part c b Finset.univ f)

/-- The first staging buffer holds the block of `x`. -/
theorem before_0 (c : Dev nD) (d) : (dats m ρ 0 c).before (0 : Fin 3) t0_0 d = xAt m c := by
  unfold Dat.before; rw [if_pos (fetch0_0 t0_0)]; rfl
/-- The second staging buffer holds the scale of `x`. -/
theorem before_1 (c : Dev nD) (d) : (dats m ρ 0 c).before (1 : Fin 3) t0_0 d = s1At m c := by
  unfold Dat.before; rw [if_pos (fetch0_1 t0_0)]; rfl
/-- The third staging buffer holds the scale of `w_mat`. -/
theorem before_2 (c : Dev nD) (d) : (dats m ρ 0 c).before (2 : Fin 3) t0_0 d = s2At m c := by
  unfold Dat.before; rw [if_pos (fetch0_2 t0_0)]; rfl

/-- What the one point of the grid starts from. -/
def bodyPre (c : Dev nD) : sProp 𝕄 :=
  iprop(Φ₀ m c ∗ (dats m ρ 0 c).owesAt () (t0_0 : Fin cfg0.N).castSucc
    ∗ (∃ d, stg c cc0_stg0_0 ((dats m ρ 0 c).before (0 : Fin 3) t0_0 d))
    ∗ (∃ d, stg c cc0_stg1_0 ((dats m ρ 0 c).before (1 : Fin 3) t0_0 d))
    ∗ (∃ d, stg c cc0_stg2_0 ((dats m ρ 0 c).before (2 : Fin 3) t0_0 d)))
/-- What the one point of the grid leaves. -/
def bodyPost (c : Dev nD) : sProp 𝕄 :=
  iprop(Φ₁ m c ∗ (dats m ρ 0 c).owesAt () (t0_0 : Fin cfg0.N).succ ∗ stg c cc0_stg0_0 (xAt m c) ∗ stg c cc0_stg1_0 (s1At m c) ∗ stg c cc0_stg2_0 (s2At m c))

/-- What the point starts with is what the body takes. -/
theorem pre_in (c : Dev nD) : bodyPre m ρ c ⊢ iprop(∃ K, bodyIn m K c) := by
  unfold bodyPre Φ₀ start bodyIn acct staged
  simp only [before_0, before_1, before_2]
  unfold Dat.owesAt Pipeline.owesWithin
  rw [show (dats m ρ 0 c).owed (t0_0 : Fin cfg0.N).castSucc = O₀ c from rfl]
  iintro ⟨⟨⟨%K, HR, HT, HP, HC⟩, Hscr, Hw, Ho⟩, ⟨%W, -, HO⟩, ⟨%d0, %g0, %h0, H0⟩, ⟨%d1, %g1, %h1, H1⟩, ⟨%d2, %g2, %h2, H2⟩⟩
  subst h0 h1 h2
  iexists K
  isplitl [HR HO]
  · isplitl [HR]; · iexact HR
    iexists W; iexact HO
  isplitl [HT]; · iexact HT
  isplitl [HP]; · iexact HP
  isplitl [HC]; · iexact HC
  isplitl [Hscr]; · iexact Hscr
  isplitl [Hw]; · iexact Hw
  isplitl [Ho]; · iexact Ho
  isplitl [H0]; · iexact H0
  isplitl [H1] <;> iassumption

/-- What the body leaves is what the point ends with. -/
theorem out_post (c : Dev nD) : bodyOut m c ⊢ bodyPost m ρ c := by
  unfold bodyPost Φ₁ bodyOut staged Dat.owesAt Pipeline.owesWithin
  rw [show (dats m ρ 0 c).owed (t0_0 : Fin cfg0.N).succ = 0 from rfl]
  iintro ⟨⟨%W, HO⟩, HZ, Hscr, Hw, Ho, H0, H1, H2⟩
  isplitl [HZ Hscr Hw Ho]
  · isplitl [HZ]; · iexact HZ
    isplitl [Hscr]; · iexact Hscr
    isplitl [Hw] <;> iassumption
  isplitl [HO]
  · iexists W
    isplitr; · ipureintro; exact fun _ _ => Or.inl trivial
    iexact HO
  isplitl [H0]
  · iexists _; isplitr; · ipureintro; rfl
    iexact H0
  isplitl [H1]
  · iexists _; isplitr; · ipureintro; rfl
    iexact H1
  iexists _; isplitr; · ipureintro; rfl
  iexact H2

/-- The printed body runs from the one to the other. -/
theorem point_sound (c : Dev nD) : bodyPre m ρ c ⊢ wpc c (bodyAt0 (F := F) t0_0) fun _ => bodyPost m ρ c := by
  rw [bodyAt_eq]
  simp only [wpc, wp_deviceId]
  iintro H
  ihave HI := (pre_in m ρ c) $$ H
  icases HI with ⟨%K, HI⟩
  iapply (wp_wand (frame) (wpE (defs₀ (F := F)) 𝒱₀ (c : Thread nD τ) none) Set.univ) $$ [HI]
  · iapply (body_sound m K c); iexact HI
  iintro %u H
  iapply (out_post m ρ c); iexact H

omit [FloatOps F] in
/-- A conjunction over the three windows, written out. -/
theorem bigSep_W (Φ : Fin cfg0.W → sProp 𝕄) : bigSep Finset.univ Φ = iprop(Φ (0 : Fin 3) ∗ Φ (1 : Fin 3) ∗ Φ (2 : Fin 3)) := bigSep_W0 Φ

set_option maxRecDepth 16000 in
/-- The body meets its obligation at every point. -/
theorem body_obligation (c : Dev nD) : BodyObligation (dats (F := F) m ρ 0 c) (defs₀ (F := F)) 𝒱₀ () Set.univ := fun t => by
  rw [fin_N0 t]
  rw [bigSep_W, bigSep_W]
  simp only [owns_whole_eq]
  show bodyPre m ρ c ⊢ wpc c (bodyAt0 (F := F) t0_0) fun _ => bodyPost m ρ c
  exact point_sound m ρ c

end Cert.KernelIdeal.Ring
end
-- ==== Proof.Deal.lean ====
/- The launch deals every device its share of the ghost state: the cells opened, the tokens handed to those that raise with them,
   the credits for what the others owe. -/
module

public import proofs.«01_k».proof.Proof.Launch

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]
local notation "𝕄" => MT nD τ sig Unit (Elt F) ℕ UU ℕ

variable (m : (ℓ : Loc nD τ sig) → Buf (Elt F) ℓ) (ρ : Dev nD → PrngReg)

/-! ## Cells and tokens -/

/-- Different pairs name different cells. -/
theorem kcell_injective : Function.Injective (kcell : Dev nD × CellIx → GSem nD τ sig) := by
  rintro ⟨c, k⟩ ⟨c', k'⟩ h
  have h1 : c = c' := congrArg (fun g : GSem nD τ sig => g.1.1) h
  have h2 : k = k' := csem_inj (congrArg Prod.snd h)
  rw [h1, h2]
/-- The cells of the protocol. -/
def ringCells : Finset (GSem nD τ sig) := Finset.univ.map ⟨kcell, kcell_injective⟩

/-- The tokens of one device's cells: barrier and exit, sends and receives, weight copies and the result's copy. -/
abbrev TokIx : Type := (Fin 15 ⊕ Fin 15) ⊕ ((Fin 15 ⊕ Fin 15) ⊕ (Fin 16 ⊕ Unit))
/-- The cell and the raise that a token is for. -/
def tokKey : TokIx → CellIx × Fin 15
  | .inl (.inl d) => (iBar, d)
  | .inl (.inr d) => (iExit, d)
  | .inr (.inl (.inl d)) => (iSend d, 0)
  | .inr (.inl (.inr d)) => (iRecv d, 0)
  | .inr (.inr (.inl p)) => (iW p, 0)
  | .inr (.inr (.inr _)) => (iOut, 0)
/-- Different tokens are for different raises. -/
theorem tokKey_injective : Function.Injective tokKey := by
  rintro ((a | a) | ((a | a) | (a | a))) ((b | b) | ((b | b) | (b | b))) h <;>
    simp [tokKey] at h ⊢ <;> exact h
/-- The raise of a device's cell that a token is for. -/
def tokOf (cj : Dev nD × TokIx) : GSem nD τ sig × ℕ × Fin 15 := (cell cj.1 (tokKey cj.2).1, 0, (tokKey cj.2).2)
/-- Different devices' tokens are for different raises. -/
theorem tokOf_injective : Function.Injective tokOf := by
  rintro ⟨c, j⟩ ⟨c', j'⟩ h
  have h1 := kcell_injective (a₁ := (c, (tokKey j).1)) (a₂ := (c', (tokKey j').1)) (congrArg Prod.fst h)
  have h2 : (tokKey j).2 = (tokKey j').2 := congrArg (fun x : GSem nD τ sig × ℕ × Fin 15 => x.2.2) h
  have h3 : j = j' := tokKey_injective (Prod.ext (congrArg Prod.snd h1) h2)
  have h4 : c = c' := congrArg Prod.fst h1
  rw [h3, h4]
/-- The tokens of the protocol. -/
def ringToks : Finset (GSem nD τ sig × ℕ × Fin 15) := Finset.univ.map ⟨tokOf, tokOf_injective⟩

/-- The launch element: the staging cells' and this kernel's. -/
def u₀ : UU := (initOf (Pipeline.cells cfgs cellOf_inj) (Pipeline.launchToks cfgs cellOf_inj), initOf ringCells ringToks)

/-- The tokens of device `c`'s own cells. -/
def mint (c : Dev nD) : sProp 𝕄 := bigSep Finset.univ fun j : TokIx => dutyTok ER (cell c (tokKey j).1) 0 (tokKey j).2

/-- What the launch element deals device `c`. -/
def G (c : Dev nD) : sProp 𝕄 :=
  iprop((bigSep Finset.univ fun k : CellIx => roundState ER (sch m) (cell c k) 0)
    ∗ ((bigSep Finset.univ fun k : CellIx => atPos ER (cell c k) 0 ∅ 0) ∗ (bigSep Finset.univ fun k : CellIx => reached ER (cell c k) 0)) ∗ mint c)
/-- What the opening of the cells makes of it. -/
def G' (c : Dev nD) : sProp 𝕄 := iprop(∃ K, records m K ∗ (bigSep Finset.univ fun k : CellIx => atPos ER (cell c k) 0 ∅ 0) ∗ toks c)

/-- The initial ghost state is shared among the devices. -/
theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : CellIx => Φ (cell c k) := by
    unfold ringCells; rw [bigSep_map, bigSep_univ_prod]; rfl
  have hT : bigSep ringToks (fun x => (dutyTok ER x.1 x.2.1 x.2.2 : sProp 𝕄)) = bigSep Finset.univ fun c : Dev nD => mint c := by
    unfold ringToks mint; rw [bigSep_map, bigSep_univ_prod]; rfl
  iintro HX
  imod (Rounds.fund ER (sch m) ringCells ringToks) $$ HX with ⟨Hst, Hr, Hat, Htok⟩
  imodintro
  ihave Hst' := (Entails.of_eq (hX fun g => roundState ER (sch m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The tokens go to the devices that raise with them -/

/-- From a device and a distance to the device there and the distance back. -/
def there : Dev nD × Fin 15 ≃ Dev nD × Fin 15 :=
  Function.Involutive.toPerm (fun x => (pr x.1 x.2, x.2.rev)) fun x => by simp only [pr_rev, Fin.rev_rev]
/-- From a device and a distance to the device there and the same distance. -/
def along : Dev nD × Fin 15 ≃ Dev nD × Fin 15 where
  toFun x := (pr x.1 x.2, x.2)
  invFun x := (pr x.1 x.2.rev, x.2)
  left_inv x := by simp only [pr_rev]
  right_inv x := by
    have := pr_rev x.1 x.2.rev
    rw [Fin.rev_rev] at this
    simp only [this]

omit [FloatOps F] in
/-- A conjunction over devices and distances, counted from the other end of each signal, going on around the ring. -/
theorem around_there (Φ : Dev nD → Fin 15 → sProp 𝕄) :
    (bigSep Finset.univ fun c => bigSep Finset.univ fun d => Φ c d) = bigSep Finset.univ fun c => bigSep Finset.univ fun d => Φ (pr c d) d.rev := by
  rw [← bigSep_univ_prod (fun x : Dev nD × Fin 15 => Φ x.1 x.2), bigSep_univ_equiv there, bigSep_univ_prod]; rfl
omit [FloatOps F] in
/-- A conjunction over devices and distances, counted from the other end of each signal, at the same distance. -/
theorem around_along (Φ : Dev nD → Fin 15 → sProp 𝕄) :
    (bigSep Finset.univ fun c => bigSep Finset.univ fun d => Φ c d) = bigSep Finset.univ fun c => bigSep Finset.univ fun d => Φ (pr c d) d := by
  rw [← bigSep_univ_prod (fun x : Dev nD × Fin 15 => Φ x.1 x.2), bigSep_univ_equiv along, bigSep_univ_prod]; rfl

omit [FloatOps F] in
/-- The tokens minted at one device, kind by kind. -/
theorem mint_eq (c : Dev nD) : (mint c : sProp 𝕄) =
    iprop(((bigSep Finset.univ fun d => dutyTok ER (cell c iBar) 0 d) ∗ (bigSep Finset.univ fun d => dutyTok ER (cell c iExit) 0 d))
    ∗ ((bigSep Finset.univ fun d => dutyTok ER (cell c (iSend d)) 0 0) ∗ (bigSep Finset.univ fun d => dutyTok ER (cell c (iRecv d)) 0 0))
    ∗ ((bigSep Finset.univ fun p => dutyTok ER (cell c (iW p)) 0 0) ∗ dutyTok ER (cell c iOut) 0 0)) := by
  unfold mint
  rw [BI.bigSep_univ_sum, BI.bigSep_univ_sum, BI.bigSep_univ_sum, BI.bigSep_univ_sum, BI.bigSep_univ_sum]
  rw [show (Finset.univ : Finset Unit) = {()} from rfl, bigSep_singleton]
  rfl

/-- The tokens minted at all devices are the tokens that all devices raise with. -/
theorem toks_around : (bigSep Finset.univ fun c : Dev nD => (mint c : sProp 𝕄)) = bigSep Finset.univ fun c : Dev nD => toks c := by
  unfold toks
  simp only [mint_eq, listSep15, listSep16, bigSep_sep']
  rw [around_there fun c d => dutyTok ER (cell c iBar) 0 d, around_along fun c d => dutyTok ER (cell c iExit) 0 d,
    around_along fun c d => dutyTok ER (cell c (iRecv d)) 0 0]

/-! ## The cells open -/

omit [FloatOps F] in
/-- The only semaphore that the kernel does not own is the barrier. -/
theorem unscopedSems0_eq (c : Dev nD) : (unscopedSems0 c : sProp 𝕄) = semVal (cell c iBar) 0 := by
  unfold unscopedSems0; rw [bigSep_eq_bigSepL_of_eq [SemLoc.reg barS] (by decide) (by decide)]; rfl
omit [FloatOps F] in
/-- All semaphores of the protocol are the kernel's own and the barrier. -/
theorem sems0_eq (c : Dev nD) :
    (bigSep Finset.univ fun k : CellIx => semVal (cell c k) 0 : sProp 𝕄)
      = iprop(Pipeline.ownSems0 (Ix := Unit) (Name := ℕ) (U := UU) (Lvl := ℕ) (Val := Elt F) (τ := τ) osem c ∗ unscopedSems0 c) := by
  rw [unscopedSems0_eq, BI.bigSep_univ_sum, show (Finset.univ : Finset Unit) = {()} from rfl, bigSep_singleton]; rfl

/-- On one device every cell's invariant is set up from its semaphore at zero. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (sch m) κ (cell c k)))
          ∗ ((bigSep Finset.univ fun k : CellIx => atPos ER (cell c k) 0 ∅ 0) ∗ (bigSep Finset.univ fun k : CellIx => reached ER (cell c k) 0)) ∗ mint c) := by
  unfold G
  iintro ⟨Hos, Hus, Hst, Hat, Htok⟩
  ihave Hv := (Entails.of_eq (sems0_eq (F := F) c).symm) $$ [Hos Hus]
  · isplitl [Hos] <;> iassumption
  imod (show iprop((bigSep Finset.univ fun k : CellIx => semVal (cell c k) 0) ∗ bigSep Finset.univ fun k : CellIx => roundState ER (sch m) (cell c k) 0)
      ⊢ (|={Set.univ}=> bigSep Finset.univ fun k => iprop(∃ κ : ℕ, cellInv ER (sch m) κ (cell c k)) : sProp 𝕄) from by
        rw [← bigSep_sep']
        exact (bigSep_mono fun k _ => (Rounds.body_intro ER (sch m) (cell c k)).trans inv_alloc).trans (bigSep_fupd _ _)) $$ [Hv Hst] with Hinv
  · isplitl [Hv] <;> iassumption
  imodintro
  isplitl [Hinv]; · iexact Hinv
  isplitl [Hat]; · iexact Hat
  iexact Htok

/-- The invariants of all devices become one record that every device holds. -/
theorem regroup :
    (bigSep Finset.univ fun c : Dev nD => iprop((bigSep Finset.univ fun k => iprop(∃ κ : ℕ, cellInv ER (sch m) κ (cell c k)))
          ∗ ((bigSep Finset.univ fun k : CellIx => atPos ER (cell c k) 0 ∅ 0) ∗ (bigSep Finset.univ fun k : CellIx => reached ER (cell c k) 0)) ∗ mint c) : sProp 𝕄)
      ⊢ bigSep Finset.univ (G' m) := by
  rw [bigSep_sep', bigSep_sep', bigSep_sep', toks_around, ← bigSep_univ_prod (fun ck : Dev nD × CellIx => iprop(∃ κ : ℕ, cellInv ER (sch m) κ (kcell ck))),
    ← bigSep_univ_prod (fun ck : Dev nD × CellIx => (reached ER (kcell ck) 0 : sProp 𝕄))]
  iintro ⟨HI, ⟨Hat, #HR⟩, Htk⟩
  ihave HK := (BI.bigSep_exists_pi Finset.univ (fun (ck : Dev nD × CellIx) (κ : ℕ) => (cellInv ER (sch m) κ (kcell ck) : sProp 𝕄))) $$ HI
  icases HK with ⟨%K, #HI⟩
  iapply (bigSep_with_persistent (R := records m K)
    (Φ := fun c : Dev nD => iprop((bigSep Finset.univ fun k : CellIx => atPos ER (cell c k) 0 ∅ 0) ∗ toks c)) fun c _ => by
      unfold G'; iintro H; iexists K; iexact H)
  isplitr
  · unfold records; isplitl; · iexact HI
    iexact HR
  · rw [bigSep_sep']
    isplitl [Hat]; · iexact Hat
    iexact Htk

/-- All the cells open at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The credits for what the others owe -/

/-- A list of debts at a cell is their sum. -/
theorem tallies_apply (f : Fin 15 → CellTallies nD τ sig Unit) (g : GSem nD τ sig) : tallies L15 f g () = ∑ j, f j g () := by
  have h : ∀ l : List (Fin 15), tallies l f g () = (l.map fun j => f j g ()).sum := fun l => by
    induction l with
    | nil => rfl
    | cons a l ih =>
      rw [List.map_cons, List.sum_cons, ← ih]
      show (tallies l f + f a) g () = _
      rw [Pi.add_apply, Finsupp.add_apply, add_comm]
  rw [h, ← List.sum_toFinset _ L15_nodup, L15_univ]

/-- A raise of `N` owed by every device at every distance `d`, to the cell `k d` of the device there: what a cell gets. -/
theorem family_total (k : Fin 15 → CellIx) (N : ℕ) (c : Dev nD) (kk : CellIx) :
    ∑ e : Dev nD, tallies L15 (fun j => tallyAt (cell (pr e j) (k j)) () N) (cell c kk) () = ∑ j, if k j = kk then N else 0 := by
  simp only [tallies_apply]
  rw [Finset.sum_comm]
  refine Finset.sum_congr rfl fun j _ => ?_
  have hj : pr (pr c j.rev) j = c := by have := pr_rev c j.rev; rwa [Fin.rev_rev] at this
  rw [Finset.sum_eq_single (pr c j.rev)]
  · rw [tallyAt_apply, hj]
    by_cases h : k j = kk
    · rw [h, if_pos ⟨rfl, rfl⟩, if_pos rfl]
    · rw [if_neg fun hh => h (csem_inj (congrArg Prod.snd hh.1)).symm, if_neg h]
  · intro e _ he
    rw [tallyAt_apply, if_neg]
    rintro ⟨hh, -⟩
    refine he ?_
    have : c = pr e j := congrArg (fun g : GSem nD τ sig => g.1.1) hh
    rw [this, pr_rev]
  · exact fun h => absurd (Finset.mem_univ _) h

/-- The credit for what the others owe a cell at launch. -/
theorem launch_cell (c : Dev nD) (kk : CellIx) :
    tallyOn (cell c kk) (launchCredit (Pipeline.owing O₀) 0 (cell c kk))
      = (tallyAt (cell c kk) () ((∑ j : Fin 15, if iExit = kk then 1 else 0) + (∑ j : Fin 15, if iRecv j = kk then NX else 0) + ∑ j : Fin 15, if iBar = kk then 1 else 0)
        : CellTallies nD τ sig Unit) := by
  unfold tallyAt; refine congrArg _ (Finsupp.ext fun u => ?_); cases u
  rw [Pipeline.launchCredit_owing, Finsupp.single_eq_same, ← family_total (fun _ => iExit) 1 c kk, ← family_total (fun j => iRecv j) NX c kk,
    ← family_total (fun _ => iBar) 1 c kk, ← Finset.sum_add_distrib, ← Finset.sum_add_distrib]
  refine Finset.sum_congr rfl fun e _ => ?_
  unfold O₀ exitO sendO barO
  rw [Pi.add_apply, Finsupp.add_apply, Pi.add_apply, Finsupp.add_apply]

/-- A barrier cell is owed fifteen units. -/
theorem bar_sum (N : ℕ) : ((∑ j : Fin 15, if iExit = iBar then 1 else 0) + (∑ j : Fin 15, if iRecv j = iBar then N else 0) + ∑ j : Fin 15, if iBar = iBar then 1 else 0) = 15 := by simp
/-- An exit cell is owed fifteen units. -/
theorem exit_sum (N : ℕ) : ((∑ j : Fin 15, if iExit = iExit then 1 else 0) + (∑ j : Fin 15, if iRecv j = iExit then N else 0) + ∑ j : Fin 15, if iBar = iExit then 1 else 0) = 15 := by simp
/-- A receive cell is owed one slot. -/
theorem recv_sum (N : ℕ) (d : Fin 15) :
    ((∑ j : Fin 15, if iExit = iRecv d then 1 else 0) + (∑ j : Fin 15, if iRecv j = iRecv d then N else 0) + ∑ j : Fin 15, if iBar = iRecv d then 1 else 0) = N := by simp
/-- The credit at a barrier cell. -/
theorem launch_bar (c : Dev nD) : tallyOn (cell c iBar) (launchCredit (Pipeline.owing O₀) 0 (cell c iBar)) = (tallyAt (cell c iBar) () 15 : CellTallies nD τ sig Unit) := by
  rw [launch_cell, bar_sum]
/-- The credit at an exit cell. -/
theorem launch_exit (c : Dev nD) : tallyOn (cell c iExit) (launchCredit (Pipeline.owing O₀) 0 (cell c iExit)) = (tallyAt (cell c iExit) () 15 : CellTallies nD τ sig Unit) := by
  rw [launch_cell, exit_sum]
/-- The credit at a receive cell. -/
theorem launch_recv (c : Dev nD) (d : Fin 15) :
    tallyOn (cell c (iRecv d)) (launchCredit (Pipeline.owing O₀) 0 (cell c (iRecv d))) = (tallyAt (cell c (iRecv d)) () NX : CellTallies nD τ sig Unit) := by
  rw [launch_cell, recv_sum]

/-- The launch gives every device the credits that it waits with. -/
theorem creds_intro (c : Dev nD) : (Pipeline.launchCred O₀ c : sProp 𝕄) ⊢ creds c := by
  have h : (Pipeline.launchCred O₀ c : sProp 𝕄)
      ⊢ bigSep Finset.univ fun k : CellIx => (cred (tallyOn (cell c k) (launchCredit (Pipeline.owing O₀) 0 (cell c k))) : sProp 𝕄) := by
    unfold Pipeline.launchCred
    refine (bigSep_subset (Finset.subset_univ (Finset.univ.map ⟨csem, csem_inj⟩))).trans ?_
    rw [bigSep_map]; exact BI.Entails.refl _
  refine h.trans ?_
  rw [cells_split]
  simp only [launch_bar, launch_exit, launch_recv]
  unfold creds
  iintro ⟨⟨⟨-, HR⟩, ⟨-, HE, -⟩⟩, HB⟩
  isplitl [HB]; · iexact HB
  isplitl [HR] <;> iassumption

end Cert.KernelIdeal.Ring
end
-- ==== Proof.Run.lean ====
/- The run of the program from any memory with every semaphore at zero, over any float values. -/
module

public import proofs.«01_k».proof.Proof.Deal
public import Idealize.ShloMosaic.Lib.Pipeline.CollectiveSegs

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.KernelIdeal.Gen

variable {F : FTy → Type} [FloatOps F]
local notation "𝕄" => MT nD τ sig Unit (Elt F) ℕ UU ℕ

variable (m : (ℓ : Loc nD τ sig) → Buf (Elt F) ℓ) (ρ : Dev nD → PrngReg)

/-- The kernel's own semaphores are different from one another and from those of the windows. -/
theorem ownSemFacts : Pipeline.OwnSemFacts cfg0.spec osem := ⟨fun k => by revert k; decide, fun a b h => by
    have := csem_inj (a₁ := .inl a) (a₂ := .inl b) h; exact Sum.inl.inj this, fun k w s h => by
  have hk := congrArg kd h
  rw [show kd (osem k) = some (.inl k) from kd_csem (.inl k)] at hk
  revert hk
  fin_cases w <;> fin_cases s <;> exact fun hk => nomatch hk⟩

/-- Every window is held whole. -/
theorem share_eq (c : Dev nD) (w : Fin cfg0.W) : (dats m ρ 0 c).share w = fullShare := by unfold Dat.share; split <;> rfl

/-- The two buffers outside the windows as the launch finds them. -/
def heldIn (c : Dev nD) : sProp 𝕄 :=
  iprop(start m c ∗ part c main_arg1 Finset.univ (wAt m c) ∗ (∃ f, part c main_v1 Finset.univ f))
/-- And as the run leaves them, with the barrier semaphore. -/
def heldOut (c : Dev nD) : sProp 𝕄 :=
  iprop(unscopedSems0 c ∗ part c main_arg1 Finset.univ (wAt m c) ∗ part c main_v1 Finset.univ (outAt m c))

/-- What the launch gives a device is what it starts from. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(heldIn m c ∗ emp) := by
  rw [Pipeline.unscopedRestP_none, show cfg0.spec = spec0 from rfl, unscopedRest0_eq]
  unfold G' heldIn start
  iintro ⟨⟨H1, Hv⟩, Hlev, Hcr, -, ⟨%K, HR, HP, HT⟩⟩
  ihave Hc := (creds_intro (F := F) c) $$ Hcr
  imodintro
  isplitl
  · isplitl [HR Hlev HT HP Hc]
    · iexists K
      isplitl [HR Hlev]
      · isplitl [HR] <;> iassumption
      isplitl [HT]; · iexact HT
      isplitl [HP] <;> iassumption
    isplitl [H1]; · iexact H1
    iexists _; iexact Hv
  · iempintro

/-- With the scratch buffers that is what the body starts from. -/
theorem phi0_intro (c : Dev nD) :
    iprop(heldIn m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, show cfg0.spec = spec0 from rfl, scopedRest0_eq]
  unfold heldIn Φ₀ scratch
  iintro ⟨⟨Hs, H1, Hv⟩, -, Hr⟩
  isplitl [Hs]; · iexact Hs
  isplitl [Hr]; · iexact Hr
  isplitl [H1] <;> iassumption

/-- What the body leaves is what the launch takes back. -/
theorem phi1_exit (c : Dev nD) :
    (dats m ρ 0 c).Φ (Fin.last cfg0.N) ⊢ iprop(heldOut m c ∗ Pipeline.ownSems0 osem c ∗ Pipeline.scopedRest cfg0.spec c) := by
  rw [show (dats m ρ 0 c).Φ (Fin.last cfg0.N) = Φ₁ m c from rfl, show cfg0.spec = spec0 from rfl, scopedRest0_eq]
  unfold Φ₁ heldOut scratch
  rw [sems0_eq]
  iintro ⟨⟨Ho, Hu⟩, Hr, H1, Hv⟩
  isplitl [Hu H1 Hv]
  · isplitl [Hu]; · iexact Hu
    isplitl [H1] <;> iassumption
  isplitl [Ho] <;> iassumption

/-- The launch may wait for its own copies whatever a device owes. -/
theorem stageWaits (c : Dev nD) : (levAts L lv : sProp 𝕄) ⊢ Pipeline.cellsWaits cfgs (dats m ρ) () 0 c :=
  Pipeline.cellsWaits_intro cfgs (dats m ρ) () 0 c fun w s t =>
    mayWait_of c _ (n := 0) (by fin_cases w <;> fin_cases s <;> decide) (by
      rcases t with ⟨_ | _, ht⟩
      · exact above_O₀ c
      · exact above_zero 0)

/-- What the two buffers and the semaphores say of the final state. -/
def Left (c : Dev nD) (s : MemSt nD τ sig (Elt F)) : Prop :=
  (∀ sm : SemLoc sig, sm.isScoped .tc = false → s.sem ((c.tc : Thread nD τ), sm) = 0)
    ∧ s.mem ((c : Thread nD τ).loc main_arg1) = m ((c : Thread nD τ).loc main_arg1) ∧ s.mem ((c : Thread nD τ).loc main_v1) = outAt m c

/-- What a device holds at the end is true of the final state. -/
theorem left_read (c : Dev nD) (s' : Phys nD τ sig (Elt F)) :
    iprop(heldOut m c ∗ emp ∗ SI s') ⊢ |={Set.univ}=> iprop(⌜Left m c s'.mem⌝ ∗ SI s') := by
  unfold heldOut
  iintro ⟨⟨Hu, H1, Hv⟩, -, HSI⟩
  icombine HSI H1 gives %h1
  icombine HSI Hv gives %hv
  imod (Pipeline.unscopedSems0_read (X := unscopedSems0 c) (c := c) fupd_intro s') $$ [Hu HSI] with ⟨%h, HSI⟩
  · isplitl [Hu] <;> iassumption
  imodintro
  isplitr
  · ipureintro
    exact ⟨h, Buf.eq_of_forall_mem_univ h1, Buf.eq_of_forall_mem_univ hv⟩
  iexact HSI

/-- The final states: the arguments as they were and the result in place. -/
def QC (r : PUnit × MemSt nD τ sig (Elt F)) : Prop := ∀ c : Dev nD,
  (r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3))
  ∧ r.2.mem ((c.tc : Thread nD τ).loc main_v1) = outAt m c

set_option maxRecDepth 8000 in
/-- From any memory with every semaphore at zero, every fair execution of the sixteen devices ends, with the arguments
    unchanged, device `c`'s result holding `outAt m c`, and every semaphore at zero. -/
theorem run_main : θ_run defs (onTc (τ := τ) (main (F := F))) (s₀ m ρ) (fun r => QC m r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := stageWaits m ρ)
    (G := G m) (G' := G' m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ _ => rfl) (hpf := fun _ k => k.elim0)
    (X := heldIn m) (Y := heldOut m) (Z := fun _ => iprop(emp))
    (hX := start_intro m ρ) (hin := phi0_intro m ρ) (hout := phi1_exit m ρ)
    (QY := Left m) (hY := left_read m)
    (hQ := fun _ h hs => ⟨fun c => ⟨⟨((h c).1 (0 : Fin 3)).trans ((dats (F := F) m ρ 0 c).arrAt_in (0 : Fin 3) rfl _), (h c).2.2.2.1,
        ((h c).1 (1 : Fin 3)).trans ((dats (F := F) m ρ 0 c).arrAt_in (1 : Fin 3) rfl _),
        ((h c).1 (2 : Fin 3)).trans ((dats (F := F) m ρ 0 c).arrAt_in (2 : Fin 3) rfl _)⟩, (h c).2.2.2.2⟩,
      sem_eq_zero hs fun c => (h c).2.2.1⟩)

end Cert.KernelIdeal.Ring
end
-- ==== Proof.Pays.lean ====
/- What the body's arithmetic computes over the extended reals, element by element, and what the reference computes. -/
module

public import proofs.«01_k».proof.Proof.Gen.KernelIdeal
public import proofs.«01_k».proof.Proof.Gen.KernelIdeal.Skeleton
public import proofs.«01_k».proof.Proof.Gen.ReferenceIdeal.Run
public import Idealize.ShloMosaic.Lib.Pointwise

@[expose] public section

noncomputable section

namespace Cert.KernelIdeal.Ring

open Idealize.ShloMosaic
open Cert.KernelIdeal.Gen

set_option maxRecDepth 16384

/-- The first group's product. -/
theorem pay4_apply (x : Vec Ideal S256x1024 .fp8e5m2) (w : Vec Ideal S1x1024x2048 .f32) (r : Fin 256) (n : Fin 2048) :
    k0_pay4 x w (ix2 r n) = ∑ k : Fin 1024, x (ix2 r k) * w (ix3 0 k n) := by
  unfold_payloads; pointwise []
/-- Each later group's product is added to the running sum. -/
theorem pay5_apply (x : Vec Ideal S256x1024 .fp8e5m2) (w : Vec Ideal S1x1024x2048 .f32) (a : Vec Ideal S256x2048 .f32) (r : Fin 256) (n : Fin 2048) :
    k0_pay6 (k0_pay5 x w a) (ix2 r n) = a (ix2 r n) + ∑ k : Fin 1024, x (ix2 r k) * w (ix3 0 k n) := by
  unfold_payloads; pointwise []
/-- The third group's product is added to the running sum. -/
theorem pay7_apply (x : Vec Ideal S256x1024 .fp8e5m2) (w : Vec Ideal S1x1024x2048 .f32) (a : Vec Ideal S256x2048 .f32) (r : Fin 256) (n : Fin 2048) :
    k0_pay7 x w a (ix2 r n) = a (ix2 r n) + ∑ k : Fin 1024, x (ix2 r k) * w (ix3 0 k n) := by
  unfold_payloads; pointwise []
/-- The last group's product is added to the running sum. -/
theorem pay8_apply (x : Vec Ideal S256x1024 .fp8e5m2) (w : Vec Ideal S1x1024x2048 .f32) (a : Vec Ideal S256x2048 .f32) (r : Fin 256) (n : Fin 2048) :
    k0_pay8 x w a (ix2 r n) = a (ix2 r n) + ∑ k : Fin 1024, x (ix2 r k) * w (ix3 0 k n) := by
  unfold_payloads; pointwise []
/-- The scaling and the maximum with zero. -/
theorem pay9_apply (s t : EReal) (a : Vec Ideal S256x2048 .f32) (r : Fin 256) (n : Fin 2048) :
    k0_pay1 (F := Ideal) (k0_pay9 (F := Ideal) s t a) (ix2 r n) = max (a (ix2 r n) * (s * t)) (0 : EReal) := by
  unfold_payloads; pointwise []
/-- The rounding changes no extended real. -/
theorem pay2_apply (x : Vec Ideal S4096x256 .f32) (i : S4096x256.Idx) : k0_pay2 (F := Ideal) x i = x i := by
  unfold_payloads; pointwise []

/-- The reference's result as a function of its arguments. -/
def refTerm (X : FVec Ideal Cert.ReferenceIdeal.S4096x4096 .f32) (W : FVec Ideal Cert.ReferenceIdeal.S4096x2048 .f32)
    (s t : FVec Ideal Cert.ReferenceIdeal.S1 .f32) : FVec Ideal Cert.ReferenceIdeal.S4096x2048 .f32 :=
  maximumf (F := Ideal) (mulf (Host.dotGeneral (F := Ideal) Cert.ReferenceIdeal.dot_S4096x4096_S4096x2048_S4096x2048_1_0_0_1_n_n none X W)
      (broadcastInDim Cert.ReferenceIdeal.S4096x2048 ![0, 1] Cert.ReferenceIdeal.Facts₀.bcast_S1x1_S4096x2048_0_1
        (broadcastInDim Cert.ReferenceIdeal.S1x1 ![1] Cert.ReferenceIdeal.Facts₀.bcast_S1_S1x1_1 (mulf s t))))
    (broadcastInDim Cert.ReferenceIdeal.S4096x2048 ![] Cert.ReferenceIdeal.Facts₀.bcast_S_S4096x2048 (constant Cert.ReferenceIdeal.S_ .f32 0x00000000#32))

/-- The reference's result, element by element. -/
theorem refTerm_apply (X : FVec Ideal Cert.ReferenceIdeal.S4096x4096 .f32) (W : FVec Ideal Cert.ReferenceIdeal.S4096x2048 .f32)
    (s t : FVec Ideal Cert.ReferenceIdeal.S1 .f32) (r : Fin 4096) (n : Fin 2048) :
    refTerm X W s t (ix2 r n) = max ((∑ k : Fin 4096, X (ix2 r k) * W (ix2 k n)) * (s (ix1 0) * t (ix1 0))) (0 : EReal) := by
  unfold refTerm
  pointwise []

end Cert.KernelIdeal.Ring
end
-- ==== Proof.Value.lean ====
/- The result of the kernel over the extended reals: every device's rows of the product of the whole arrays, scaled, and
   cut off at zero. -/
module

public import proofs.«01_k».proof.Proof.Run
public import proofs.«01_k».proof.Proof.Pays
public import Idealize.ShloMosaic.Lib.Layout

@[expose] public section

noncomputable section

namespace Cert.KernelIdeal.Ring

open Idealize.ShloMosaic Idealize.ShloMosaic.TcCoe
open Cert.KernelIdeal.Gen

variable (m : (ℓ : Loc nD τ sig) → Buf (Elt Ideal) ℓ)

/-! ## The order of the sum -/

/-- The column of the whole arrays that position `q` of device `c`'s gathered columns holds. -/
def col (c : Dev nD) (q : Fin 4096) : Fin 4096 :=
  ⟨256 * (src c (q.val / 256)).val + q.val % 256, by have : (src c (q.val / 256)).val < 16 := Fin.isLt _; omega⟩

/-- The source of the source, at the same device, is the distance again. -/
theorem src_src (c : Dev nD) (p : ℕ) (hp : p < 16) : (src c (src c p).val).val = p := by
  have hc : c.val < 16 := c.isLt
  simp only [src]; omega
/-- The map from positions to columns is its own inverse. -/
theorem col_col (c : Dev nD) (q : Fin 4096) : col c (col c q) = q := by
  have h := src_src c (q.val / 256) (by omega)
  have hs : (src c (q.val / 256)).val < 16 := Fin.isLt _
  refine Fin.ext ?_
  simp only [col]
  rw [show (256 * (src c (q.val / 256)).val + q.val % 256) / 256 = (src c (q.val / 256)).val by omega, h]
  omega
/-- Every column lies at one position. -/
theorem sum_col (c : Dev nD) (f : Fin 4096 → EReal) : ∑ q, f (col c q) = ∑ q, f q :=
  Equiv.sum_comp (Function.Involutive.toPerm (col c) (col_col c)) f

/-- Position `k` of group `g`. -/
def pos (g : Fin 4) (k : Fin 1024) : Fin 4096 := ⟨1024 * g.val + k.val, by omega⟩
/-- The four groups' sums are the whole sum. -/
theorem sum_groups (f : Fin 4096 → EReal) :
    ((∑ k, f (pos 0 k)) + ∑ k, f (pos 1 k)) + (∑ k, f (pos 2 k)) + (∑ k, f (pos 3 k)) = ∑ q, f q := by
  have h : ∑ q, f q = ∑ x : Fin 4 × Fin 1024, f (pos x.1 x.2) :=
    (Fintype.sum_equiv (finProdFinEquiv (m := 4) (n := 1024)) _ _ fun x => congrArg f (Fin.ext (by
      simp only [pos, finProdFinEquiv_apply_val]; omega))).symm
  rw [h, Fintype.sum_prod_type, Fin.sum_univ_four]

/-! ## What the buffers hold -/

/-- The staged block is the argument. -/
theorem xAt_eq (c : Dev nD) : xAt m c = m ((c : Thread nD τ).loc main_arg0) := by
  funext i
  refine congrArg (m ((c : Thread nD τ).loc main_arg0)) (funext fun a => Fin.ext ?_)
  match a with
  | ⟨0, _⟩ => show 0 * 4096 + 1 * (i 0).val = (i 0).val; omega
  | ⟨1, _⟩ => show 0 * 256 + 1 * (i 1).val = (i 1).val; omega
/-- The staged scale of `x` is the argument. -/
theorem s1At_eq (c : Dev nD) : s1At m c = m ((c : Thread nD τ).loc main_arg2) := by
  funext i
  refine congrArg (m ((c : Thread nD τ).loc main_arg2)) (funext fun a => Fin.ext ?_)
  match a with
  | ⟨0, _⟩ => show 0 * 1 + 1 * (i 0).val = (i 0).val; omega
/-- The staged scale of `w_mat` is the argument. -/
theorem s2At_eq (c : Dev nD) : s2At m c = m ((c : Thread nD τ).loc main_arg3) := by
  funext i
  refine congrArg (m ((c : Thread nD τ).loc main_arg3)) (funext fun a => Fin.ext ?_)
  match a with
  | ⟨0, _⟩ => show 0 * 1 + 1 * (i 0).val = (i 0).val; omega

/-- Row `r` of device `c` in the whole result. -/
def row (c : Dev nD) (r : Fin 256) : Fin 4096 := ⟨256 * c.val + r.val, by have : c.val < 16 := c.isLt; omega⟩

section Whole

variable (X : FVec Ideal Cert.ReferenceIdeal.S4096x4096 .f32) (W : FVec Ideal Cert.ReferenceIdeal.S4096x2048 .f32)
variable (hX : ∀ (c : Dev nD) (r : Fin 4096) (k : Fin 256), m ((c : Thread nD τ).loc main_arg0) (ix2 r k) = X (ix2 r (row c k)))
variable (hW : ∀ c : Dev nD, m ((c : Thread nD τ).loc main_arg1) = W)

include hX in
/-- Group `g`'s columns, element by element, in the whole array. -/
theorem xg_apply (c : Dev nD) (g : Fin 4) (r : Fin 256) (k : Fin 1024) : xg m c g (ix2 r k) = X (ix2 (row c r) (col c (pos g k))) := by
  have h : xg m c g (ix2 r k) = xfAt m c (ix2 r (pos g k)) := by
    refine congrArg (xfAt m c) (funext fun a => Fin.ext ?_)
    match a with
    | ⟨0, _⟩ => show 0 + 1 * r.val = r.val; omega
    | ⟨1, _⟩ => show 1024 * g.val + 1 * k.val = 1024 * g.val + k.val; omega
  rw [h]
  unfold xfAt
  refine (pay2_apply _ _).trans ?_
  rw [xAt_eq]
  exact hX (src c ((pos g k).val / 256)) (row c r) ⟨(pos g k).val % 256, Nat.mod_lt _ (by decide)⟩

include hW in
/-- Group `g`'s weights, element by element, in the whole array. -/
theorem wg_apply (c : Dev nD) (g : Fin 4) (k : Fin 1024) (n : Fin 2048) : wg m c g (ix3 0 k n) = W (ix2 (col c (pos g k)) n) := by
  have h : wg m c g (ix3 0 k n) = wtAt m c (ix3 g k n) := by
    refine congrArg (wtAt m c) (funext fun a => Fin.ext ?_)
    match a with
    | ⟨0, _⟩ => show g.val + 1 * 0 = g.val; omega
    | ⟨1, _⟩ => show 0 + 1 * k.val = k.val; omega
    | ⟨2, _⟩ => show 0 + 1 * n.val = n.val; omega
  rw [h]
  unfold wtAt
  rw [hW]
  refine congrArg W (funext fun a => Fin.ext ?_)
  match a with
  | ⟨0, _⟩ =>
    show 256 * (src c (4 * g.val + k.val / 256)).val + k.val % 256 = 256 * (src c ((1024 * g.val + k.val) / 256)).val + (1024 * g.val + k.val) % 256
    rw [show (1024 * g.val + k.val) / 256 = 4 * g.val + k.val / 256 by omega, show (1024 * g.val + k.val) % 256 = k.val % 256 by omega]
  | ⟨1, _⟩ => rfl

include hX hW in
/-- The last running sum is the product's row. -/
theorem acc3_apply (c : Dev nD) (r : Fin 256) (n : Fin 2048) :
    acc3 m c (ix2 r n) = ∑ k : Fin 4096, X (ix2 (row c r) k) * W (ix2 k n) := by
  unfold acc3 acc2 acc1 acc0
  rw [pay8_apply, pay7_apply, pay5_apply, pay4_apply]
  simp only [xg_apply m X hX, wg_apply m W hW]
  rw [sum_groups fun q => X (ix2 (row c r) (col c q)) * W (ix2 (col c q) n), sum_col c fun q => X (ix2 (row c r) q) * W (ix2 q n)]

include hX hW in
/-- Device `c`'s result is its rows of the reference's. -/
theorem out_apply (s t : FVec Ideal Cert.ReferenceIdeal.S1 .f32) (c : Dev nD)
    (hs : m ((c : Thread nD τ).loc main_arg2) = s) (ht : m ((c : Thread nD τ).loc main_arg3) = t) (r : Fin 256) (n : Fin 2048) :
    outAt m c (ix2 r n) = refTerm X W s t (ix2 (row c r) n) := by
  rw [refTerm_apply, ← acc3_apply m X W hX hW c r n]
  unfold outAt
  rw [s1At_eq, s2At_eq, hs, ht]
  exact pay9_apply _ _ _ r n

end Whole

/-- When each device's rows and columns are cut from the whole arrays `X`, `W`, `s`, `t`, device `c`'s result is block `c`
    of the reference's. -/
theorem out_block (X : FVec Ideal Cert.ReferenceIdeal.S4096x4096 .f32) (W : FVec Ideal Cert.ReferenceIdeal.S4096x2048 .f32)
    (s t : FVec Ideal Cert.ReferenceIdeal.S1 .f32)
    (h : ∀ c : Dev nD, m ((c : Thread nD τ).loc main_arg0) = Layout.block ⟨2, ![4096, 256]⟩ ⟨2, ![4096, 4096]⟩ 1 16 c X
      ∧ m ((c : Thread nD τ).loc main_arg1) = W ∧ m ((c : Thread nD τ).loc main_arg2) = s ∧ m ((c : Thread nD τ).loc main_arg3) = t)
    (c : Dev nD) : outAt m c = Layout.block ⟨2, ![256, 2048]⟩ ⟨2, ![4096, 2048]⟩ 0 16 c (refTerm X W s t) := by
  have hX : ∀ (c : Dev nD) (r : Fin 4096) (k : Fin 256), m ((c : Thread nD τ).loc main_arg0) (ix2 r k) = X (ix2 r (row c k)) := by
    intro c r k
    rw [(h c).1]
    refine congrArg X (funext fun a => Fin.ext ?_)
    match a with
    | ⟨0, _⟩ => rfl
    | ⟨1, _⟩ => show c.val * 256 + k.val = 256 * c.val + k.val; omega
  funext i
  obtain ⟨r, n, rfl⟩ : ∃ (r : Fin 256) (n : Fin 2048), i = ix2 r n := ⟨i 0, i 1, eq_ix2 i⟩
  rw [out_apply m X W hX (fun c => (h c).2.1) s t c (h c).2.2.1 (h c).2.2.2 r n]
  refine congrArg (refTerm X W s t) (funext fun a => Fin.ext ?_)
  match a with
  | ⟨0, _⟩ => show 256 * c.val + r.val = c.val * 256 + r.val; omega
  | ⟨1, _⟩ => rfl

end Cert.KernelIdeal.Ring
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Run
public import proofs.«01_k».proof.Proof.Value
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The kernel at `Ideal`: it runs, its arguments end unchanged and its semaphores at zero. -/
theorem frame_kernelIdeal : Cert.quiescent_KernelIdeal := fun m ρ _ =>
  (θ_run Cert.KernelIdeal.defs _ _).mono (fun _ h => ⟨fun c => (h.1 c).1, h.2⟩) (Cert.KernelIdeal.Ring.run_main (F := Ideal) m ρ)

/-- The two printings of the kernel have the same bodies. -/
theorem defs₀_eq : Cert.Kernel.defs₀ (F := Bits) = Cert.KernelIdeal.defs₀ (F := Bits) := by
  unfold Cert.Kernel.defs₀ Cert.KernelIdeal.defs₀
  refine congrArg (Defs.onTc (Λ := Cert.KernelIdeal.Λ₀)) (funext fun l => funext fun a => ?_)
  match l, a with
  | ⟨0, _⟩, (t, s) => rfl
  | ⟨_ + 1, h⟩, _ => exact absurd h (Nat.not_lt.2 (Nat.le_add_left _ _))

/-- And so the same table of bodies and pipelines. -/
theorem defs_eq : Cert.Kernel.defs (F := Bits) = Cert.KernelIdeal.defs (F := Bits) :=
  congrArg (Pipeline.defs (Cert.KernelIdeal.pcfgs (F := Bits))) defs₀_eq

/-- The kernel at `Bits`: the same run, read at the machine's floats. -/
theorem frame_kernel : Cert.quiescent_Kernel := by
  intro m ρ _
  rw [defs_eq]
  exact (θ_run Cert.KernelIdeal.defs _ _).mono (fun _ h => ⟨fun c => (h.1 c).1, h.2⟩) (Cert.KernelIdeal.Ring.run_main (F := Bits) m ρ)

/-- The reference: it runs, its arguments end unchanged, and it has no semaphore. -/
theorem frame_referenceIdeal : Cert.quiescent_ReferenceIdeal := fun m ρ _ =>
  (θ_run Cert.ReferenceIdeal.defs _ _).mono (fun r h => ⟨fun c => (h c).2, sem_eq_zero_of_no_sems rfl r.2⟩)
    (Cert.ReferenceIdeal.Value.run m ρ)

/-- From arguments cut from the same whole arrays, each device's result is its block of the reference's. -/
theorem algebraic : Cert.algebraic_KernelIdeal_ReferenceIdeal := fun m ρ m' ρ' _ hm =>
  ⟨Cert.KernelIdeal.Ring.refTerm _ _ _ _,
    (θ_run Cert.KernelIdeal.defs _ _).mono
      (fun _ h c => ⟨(h.1 c).2.trans (Cert.KernelIdeal.Ring.out_block m _ _ _ _ hm c), (h.1 c).1⟩)
      (Cert.KernelIdeal.Ring.run_main (F := Ideal) m ρ),
    (θ_run Cert.ReferenceIdeal.defs _ _).mono (fun _ h => h 0) (Cert.ReferenceIdeal.Value.run m' ρ')⟩

/-- All five claims. -/
theorem claim : Cert.Claim := ⟨Cert.Kernel.Gen.facts, Cert.KernelIdeal.Gen.facts, Cert.ReferenceIdeal.Gen.facts,
  frame_kernel, frame_kernelIdeal, frame_referenceIdeal, trivial, algebraic⟩

end Cert.Proof

end
